-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x1024 .f32) (main_arg2 : FVec F S1x4096x32x128 .f32) (main_arg3 : FVec F S1x4096x32x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Pre_finite_scores_ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x4096 .f32) (main_arg2 : FVec F S1x4096x32x128 .f32) (main_arg3 : FVec F S1x4096x32x128 .f32) (main_arg4 : FVec F S4096x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S8x4096x128 : Shape := ⟨3, ![8, 4096, 128]⟩
abbrev S8x256x256 : Shape := ⟨3, ![8, 256, 256]⟩
abbrev S2x8 : Shape := ⟨2, ![2, 8]⟩
abbrev S8 : Shape := ⟨1, ![8]⟩
abbrev S1x1 : Shape := ⟨2, ![1, 1]⟩
abbrev S_ : Shape := ⟨0, ![]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x1024 : Shape := ⟨2, ![256, 1024]⟩
abbrev S256x128 : Shape := ⟨2, ![256, 128]⟩
abbrev S64x64x128 : Shape := ⟨3, ![64, 64, 128]⟩
abbrev S64x128 : Shape := ⟨2, ![64, 128]⟩
abbrev S128x128 : Shape := ⟨2, ![128, 128]⟩
abbrev S1x64x128 : Shape := ⟨3, ![1, 64, 128]⟩
abbrev S1408x128 : Shape := ⟨2, ![1408, 128]⟩
abbrev S128x1408 : Shape := ⟨2, ![128, 1408]⟩
abbrev S128 : Shape := ⟨1, ![128]⟩
abbrev S128x1 : Shape := ⟨2, ![128, 1]⟩
abbrev S1472x128 : Shape := ⟨2, ![1472, 128]⟩
abbrev S64x1472 : Shape := ⟨2, ![64, 1472]⟩
abbrev S64 : Shape := ⟨1, ![64]⟩
abbrev S64x1 : Shape := ⟨2, ![64, 1]⟩
abbrev S128x1024 : Shape := ⟨2, ![128, 1024]⟩
abbrev S256x256 : Shape := ⟨2, ![256, 256]⟩
abbrev S1x256x256 : Shape := ⟨3, ![1, 256, 256]⟩
abbrev S1 : Shape := ⟨1, ![1]⟩

abbrev nBuf : Space → Nat
  | .hbm => 6
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x32x128, .f32⟩
  | .hbm, ⟨3, _⟩ => ⟨S1x4096x32x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S8x4096x128, .f32⟩
  | .local _ .vmem, ⟨5, _⟩ => ⟨S8x4096x128, .f32⟩
  | .local _ .vmem, ⟨6, _⟩ => ⟨S8x256x256, .bf16⟩
  | .local _ .vmem, ⟨7, _⟩ => ⟨S8x256x256, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 4 → Nat :=
  let c0_i32_2 : BitVec 32 := 0#32
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v3 : BitVec 32 := Scalar.muli v2 c8_i32
  let v6 : BitVec 32 := Scalar.addi v3 c0_i32
  let c0_i32_9 : BitVec 32 := 0#32
  ![0, 0, v6.toNat, 0]
def k0_dev1 (d0 : Dev nD) : Nat :=
  let c0_i32_147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_146 : BitVec 32 := 1#32
  let v129 : BitVec 32 := Scalar.muli v4 c1_i32_146
  let v130 : BitVec 32 := Scalar.addi c0_i32_147 v129
  v130.toNat
def k0_dev2 (d0 : Dev nD) : Nat :=
  let c0_i32_150 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_149 : BitVec 32 := 1#32
  let v131 : BitVec 32 := Scalar.muli v5 c1_i32_149
  let v132 : BitVec 32 := Scalar.addi c0_i32_150 v131
  v132.toNat
def k0_dev3 (d0 : Dev nD) : Nat :=
  let c0_i32_419 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_418 : BitVec 32 := 1#32
  let v2838 : BitVec 32 := Scalar.muli v4 c1_i32_418
  let v2839 : BitVec 32 := Scalar.addi c0_i32_419 v2838
  v2839.toNat
def k0_dev4 (d0 : Dev nD) : Nat :=
  let c0_i32_432 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_431 : BitVec 32 := 1#32
  let v2852 : BitVec 32 := Scalar.muli v4 c1_i32_431
  let v2853 : BitVec 32 := Scalar.addi c0_i32_432 v2852
  v2853.toNat
def k0_dev5 (d0 : Dev nD) : Nat :=
  let c0_i32_445 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_444 : BitVec 32 := 1#32
  let v2866 : BitVec 32 := Scalar.muli v5 c1_i32_444
  let v2867 : BitVec 32 := Scalar.addi c0_i32_445 v2866
  v2867.toNat
def k0_dev6 (d0 : Dev nD) : Nat :=
  let c0_i32_458 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_457 : BitVec 32 := 1#32
  let v2880 : BitVec 32 := Scalar.muli v5 c1_i32_457
  let v2881 : BitVec 32 := Scalar.addi c0_i32_458 v2880
  v2881.toNat
def k0_dev7 (d0 : Dev nD) : Nat :=
  let c0_i32_484 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_483 : BitVec 32 := 1#32
  let v2906 : BitVec 32 := Scalar.muli v5 c1_i32_483
  let v2907 : BitVec 32 := Scalar.addi c0_i32_484 v2906
  v2907.toNat
def k0_dev8 (d0 : Dev nD) : Nat :=
  let c0_i32_510 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_509 : BitVec 32 := 1#32
  let v2932 : BitVec 32 := Scalar.muli v4 c1_i32_509
  let v2933 : BitVec 32 := Scalar.addi c0_i32_510 v2932
  v2933.toNat
def k0_dev9 (d0 : Dev nD) : Nat :=
  let c0_i32_536 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_535 : BitVec 32 := 1#32
  let v2958 : BitVec 32 := Scalar.muli v5 c1_i32_535
  let v2959 : BitVec 32 := Scalar.addi c0_i32_536 v2958
  v2959.toNat
def k0_dev10 (d0 : Dev nD) : Nat :=
  let c0_i32_562 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_561 : BitVec 32 := 1#32
  let v2984 : BitVec 32 := Scalar.muli v4 c1_i32_561
  let v2985 : BitVec 32 := Scalar.addi c0_i32_562 v2984
  v2985.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x256x4096 : Shape := ⟨3, ![1, 256, 4096]⟩
abbrev S1x256x32x128 : Shape := ⟨4, ![1, 256, 32, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x32x256x4096 : Shape := ⟨4, ![1, 32, 256, 4096]⟩
abbrev S1x1x256x4096 : Shape := ⟨4, ![1, 1, 256, 4096]⟩
abbrev S1x32x256 : Shape := ⟨3, ![1, 32, 256]⟩
abbrev S1x32x256x1 : Shape := ⟨4, ![1, 32, 256, 1]⟩
abbrev S1x1x256x1 : Shape := ⟨4, ![1, 1, 256, 1]⟩
abbrev S1x32x128x256 : Shape := ⟨4, ![1, 32, 128, 256]⟩

abbrev nBuf : Space → Nat
  | .hbm => 123
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x4096, .f32⟩
  | .hbm, ⟨2, _⟩ => ⟨S1x4096x32x128, .f32⟩
  | .hbm, ⟨3, _⟩ => ⟨S1x4096x32x128, .f32⟩
  | .hbm, ⟨4, _⟩ => ⟨S4096x1024, .f32⟩
  | .hbm, ⟨5, _⟩ => ⟨S1x256x4096, .f32⟩
  | .hbm, ⟨6, _⟩ => ⟨S1x256x32x128, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S256x4096, .i32⟩
  | .hbm, ⟨48, _⟩ => ⟨S256x4096, .i32⟩
  | .hbm, ⟨49, _⟩ => ⟨S256x4096, .i1⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S256x4096, .i1⟩
  | .hbm, ⟨54, _⟩ => ⟨S256x4096, .i1⟩
  | .hbm, ⟨55, _⟩ => ⟨S256x4096, .i32⟩
  | .hbm, ⟨56, _⟩ => ⟨S256x4096, .i32⟩
  | .hbm, ⟨57, _⟩ => ⟨S256x4096, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x4096, .i32⟩
  | .hbm, ⟨65, _⟩ => ⟨S256x4096, .i32⟩
  | .hbm, ⟨66, _⟩ => ⟨S_, .i32⟩
  | .hbm, ⟨67, _⟩ => ⟨S256x4096, .i32⟩
  | .hbm, ⟨68, _⟩ => ⟨S256x4096, .i1⟩
  | .hbm, ⟨69, _⟩ => ⟨S_, .i32⟩
  | .hbm, ⟨70, _⟩ => ⟨S256x4096, .i32⟩
  | .hbm, ⟨71, _⟩ => ⟨S256x4096, .i1⟩
  | .hbm, ⟨72, _⟩ => ⟨S_, .i32⟩
  | .hbm, ⟨73, _⟩ => ⟨S_, .i1⟩
  | .hbm, ⟨74, _⟩ => ⟨S256x4096, .i1⟩
  | .hbm, ⟨75, _⟩ => ⟨S256x4096, .i1⟩
  | .hbm, ⟨76, _⟩ => ⟨S256x4096, .i1⟩
  | .hbm, ⟨77, _⟩ => ⟨S256x4096, .i32⟩
  | .hbm, ⟨78, _⟩ => ⟨S256x4096, .i32⟩
  | .hbm, ⟨79, _⟩ => ⟨S256x4096, .i32⟩
  | .hbm, ⟨80, _⟩ => ⟨S_, .i32⟩
  | .hbm, ⟨81, _⟩ => ⟨S256x4096, .i32⟩
  | .hbm, ⟨82, _⟩ => ⟨S256x4096, .i1⟩
  | .hbm, ⟨83, _⟩ => ⟨S256x4096, .i1⟩
  | .hbm, ⟨84, _⟩ => ⟨S1x32x256x4096, .f32⟩
  | .hbm, ⟨85, _⟩ => ⟨S_, .f32⟩
  | .hbm, ⟨86, _⟩ => ⟨S1x32x256x4096, .f32⟩
  | .hbm, ⟨87, _⟩ => ⟨S1x32x256x4096, .f32⟩
  | .hbm, ⟨88, _⟩ => ⟨S1x1x256x4096, .i1⟩
  | .hbm, ⟨89, _⟩ => ⟨S_, .f32⟩
  | .hbm, ⟨90, _⟩ => ⟨S_, .f32⟩
  | .hbm, ⟨91, _⟩ => ⟨S1x32x256x4096, .i1⟩
  | .hbm, ⟨92, _⟩ => ⟨S1x32x256x4096, .f32⟩
  | .hbm, ⟨93, _⟩ => ⟨S1x32x256x4096, .f32⟩
  | .hbm, ⟨94, _⟩ => ⟨S_, .f32⟩
  | .hbm, ⟨95, _⟩ => ⟨S1x32x256, .f32⟩
  | .hbm, ⟨96, _⟩ => ⟨S1x32x256x1, .f32⟩
  | .hbm, ⟨97, _⟩ => ⟨S1x32x256x4096, .f32⟩
  | .hbm, ⟨98, _⟩ => ⟨S1x32x256x4096, .f32⟩
  | .hbm, ⟨99, _⟩ => ⟨S1x32x256x4096, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S1x32x256, .f32⟩
  | .hbm, ⟨105, _⟩ => ⟨S1x32x256x1, .f32⟩
  | .hbm, ⟨106, _⟩ => ⟨S_, .f32⟩
  | .hbm, ⟨107, _⟩ => ⟨S_, .f32⟩
  | .hbm, ⟨108, _⟩ => ⟨S1x32x256x1, .i1⟩
  | .hbm, ⟨109, _⟩ => ⟨S1x32x256x1, .f32⟩
  | .hbm, ⟨110, _⟩ => ⟨S1x32x256x1, .f32⟩
  | .hbm, ⟨111, _⟩ => ⟨S1x32x256x4096, .f32⟩
  | .hbm, ⟨112, _⟩ => ⟨S1x32x256x4096, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S1x32x256x4096, .i1⟩
  | .hbm, ⟨117, _⟩ => ⟨S1x32x256x4096, .f32⟩
  | .hbm, ⟨118, _⟩ => ⟨S1x32x256x4096, .f32⟩
  | .hbm, ⟨119, _⟩ => ⟨S1x32x128x256, .f32⟩
  | .hbm, ⟨120, _⟩ => ⟨S1x256x32x128, .f32⟩
  | .hbm, ⟨121, _⟩ => ⟨S1x256x4096, .f32⟩
  | .hbm, ⟨122, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Head.lean ====
/-
# 01_k — the pure part of the kernel, written once

The kernel repeats one head's work eight times and one slot's exchange eight times. This module names the pure
functions of both: a key or value block, a gathered run of blocks, one group of query rows attended over a
gathered run, one head's context, the accumulator after a head, and the quarters that are exchanged.
-/
module

public import proofs.«01_k».proof.Proof.Gen.KernelIdeal.Skeleton

@[expose] public section

noncomputable section

namespace Cert.KernelIdeal.Own

open Idealize.ShloMosaic Idealize.SL.Sem
open Cert.KernelIdeal Cert.KernelIdeal.Gen

variable {F : FTy → Type} [FloatOps F]

/-- The queries of all heads, scaled: the inputs' rounded product times the scale, rounded. -/
def qOf (x : Vec F S1x256x1024 .f32) (wq : Vec F S1024x1024 .f32) : FVec F S256x1024 .bf16 :=
  truncf .bf16 (mulf (matmul dot_S256x1024_S1024x1024_S256x1024_1_0_0_1_n_n none
      (truncf .bf16 (shapeCast S256x1024 x shapeCasts_S1x256x1024_S256x1024) bitsLt_bf16_f32)
      (truncf .bf16 (shapeCast S1024x1024 wq shapeCasts_S1024x1024_S1024x1024) bitsLt_bf16_f32)
      (constant S256x1024 .f32 0x00000000#32))
    (broadcast S256x1024 (Scalar.ofBits .f32 0x3DB504F3#32))) bitsLt_bf16_f32

theorem slices_q (h : Fin 8) : S256x1024.Slices ![0, 128 * h.val] S256x128 := by revert h; decide

/-- One head's queries. -/
def qHead (q : FVec F S256x1024 .bf16) (h : Fin 8) : FVec F S256x128 .bf16 :=
  extractStridedSlice S256x128 ![0, 128 * h.val] q (slices_q h)

/-- One head's keys (or values) as 64 blocks of 64 rows, rounded. -/
def slab (v : Vec F S4096x128 .f32) : FVec F S64x64x128 .bf16 :=
  truncf .bf16 (shapeCast S64x64x128 v shapeCasts_S4096x128_S64x64x128) bitsLt_bf16_f32

theorem slices_blk (b : Fin 64) : S64x64x128.Slices ![b.val, 0, 0] S1x64x128 :=
  ⟨rfl, fun a => by match a with
    | 0 => exact b.isLt
    | 1 => exact Nat.le.refl
    | 2 => exact Nat.le.refl⟩

/-- One block of 64 rows. -/
def blk (m : FVec F S64x64x128 .bf16) (b : Fin 64) : FVec F S64x128 .bf16 :=
  shapeCast S64x128 (extractStridedSlice S1x64x128 ![b.val, 0, 0] m (slices_blk b)) shapeCasts_S1x64x128_S64x128

/-- The blocks the outer query rows see: the multiples of 3. -/
def b03 : Fin 22 → Fin 64 :=
  ![0, 3, 6, 9, 12, 15, 18, 21, 24, 27, 30, 33, 36, 39, 42, 45, 48, 51, 54, 57, 60, 63]
/-- The blocks query rows 64–127 see. -/
def b1 : Fin 23 → Fin 64 :=
  ![0, 1, 2, 5, 8, 11, 14, 17, 20, 23, 26, 29, 32, 35, 38, 41, 44, 47, 50, 53, 56, 59, 62]
/-- The blocks query rows 128–191 see. -/
def b2 : Fin 23 → Fin 64 :=
  ![0, 2, 1, 4, 7, 10, 13, 16, 19, 22, 25, 28, 31, 34, 37, 40, 43, 46, 49, 52, 55, 58, 61]

theorem cat22 (f : Fin 22 → FVec F S64x128 .bf16) :
    Shape.Concatenates ((List.ofFn fun n => (⟨S64x128, f n⟩ : (s : Shape) × (s.Idx → F .bf16))).map (·.1)) S1408x128 0 :=
  concatenates_S64x128_S64x128_S64x128_S64x128_S64x128_S64x128_S64x128_S64x128_S64x128_S64x128_S64x128_S64x128_S64x128_S64x128_S64x128_S64x128_S64x128_S64x128_S64x128_S64x128_S64x128_S64x128_S1408x128_d0

theorem cat23 (f : Fin 23 → FVec F S64x128 .bf16) :
    Shape.Concatenates ((List.ofFn fun n => (⟨S64x128, f n⟩ : (s : Shape) × (s.Idx → F .bf16))).map (·.1)) S1472x128 0 :=
  concatenates_S64x128_S64x128_S64x128_S64x128_S64x128_S64x128_S64x128_S64x128_S64x128_S64x128_S64x128_S64x128_S64x128_S64x128_S64x128_S64x128_S64x128_S64x128_S64x128_S64x128_S64x128_S64x128_S64x128_S1472x128_d0

/-- 22 blocks one under another. -/
def gather22 (m : FVec F S64x64x128 .bf16) (b : Fin 22 → Fin 64) : FVec F S1408x128 .bf16 :=
  concatenate S1408x128 0 (List.ofFn fun n => ⟨S64x128, blk m (b n)⟩) (cat22 fun n => blk m (b n))
/-- 23 blocks one under another. -/
def gather23 (m : FVec F S64x64x128 .bf16) (b : Fin 23 → Fin 64) : FVec F S1472x128 .bf16 :=
  concatenate S1472x128 0 (List.ofFn fun n => ⟨S64x128, blk m (b n)⟩) (cat23 fun n => blk m (b n))

/-- The outer 128 query rows attended over 22 gathered blocks. -/
def attend22 (q : FVec F S128x128 .bf16) (k v : FVec F S1408x128 .bf16) : FVec F S128x128 .f32 :=
  have w : FVec F S128x1408 .f32 :=
    exp (matmul dot_S128x128_S1408x128_S128x1408_1_1_0_0_n_n none q k (constant S128x1408 .f32 0x00000000#32))
  divf (matmul dot_S128x1408_S1408x128_S128x128_1_0_0_1_n_n none (truncf .bf16 w bitsLt_bf16_f32) v
      (constant S128x128 .f32 0x00000000#32))
    (broadcastTo S128x128 (shapeCast S128x1 (multiReduction .add [1] S128 w 0x00000000#32 reduces_S128x1408_S128
      (.inl rfl) rfl) shapeCasts_S128_S128x1) broadcasts_S128x1_S128x128)

/-- 64 query rows attended over 23 gathered blocks. -/
def attend23 (q : FVec F S64x128 .bf16) (k v : FVec F S1472x128 .bf16) : FVec F S64x128 .f32 :=
  have w : FVec F S64x1472 .f32 :=
    exp (matmul dot_S64x128_S1472x128_S64x1472_1_1_0_0_n_n none q k (constant S64x1472 .f32 0x00000000#32))
  divf (matmul dot_S64x1472_S1472x128_S64x128_1_0_0_1_n_n none (truncf .bf16 w bitsLt_bf16_f32) v
      (constant S64x128 .f32 0x00000000#32))
    (broadcastTo S64x128 (shapeCast S64x1 (multiReduction .add [1] S64 w 0x00000000#32 reduces_S64x1472_S64
      (.inl rfl) rfl) shapeCasts_S64_S64x1) broadcasts_S64x1_S64x128)

/-- The outer query rows of one head. -/
def c03Of (q : FVec F S256x128 .bf16) (k v : FVec F S64x64x128 .bf16) : FVec F S128x128 .f32 :=
  attend22 (concatenate S128x128 0 [⟨S64x128, extractStridedSlice S64x128 ![0, 0] q slices_S256x128_o0_0_S64x128⟩,
      ⟨S64x128, extractStridedSlice S64x128 ![192, 0] q slices_S256x128_o192_0_S64x128⟩]
      concatenates_S64x128_S64x128_S128x128_d0) (gather22 k b03) (gather22 v b03)

/-- One head's context: the four groups of query rows one under another. -/
def ctxOf (q : FVec F S256x128 .bf16) (k v : FVec F S64x64x128 .bf16) : FVec F S256x128 .f32 :=
  concatenate S256x128 0 [⟨S64x128, extractStridedSlice S64x128 ![0, 0] (c03Of q k v) slices_S128x128_o0_0_S64x128⟩,
    ⟨S64x128, attend23 (extractStridedSlice S64x128 ![64, 0] q slices_S256x128_o64_0_S64x128)
      (gather23 k b1) (gather23 v b1)⟩,
    ⟨S64x128, attend23 (extractStridedSlice S64x128 ![128, 0] q slices_S256x128_o128_0_S64x128)
      (gather23 k b2) (gather23 v b2)⟩,
    ⟨S64x128, extractStridedSlice S64x128 ![64, 0] (c03Of q k v) slices_S128x128_o64_0_S64x128⟩]
    concatenates_S64x128_S64x128_S64x128_S64x128_S256x128_d0

/-- The accumulator before the first head. -/
def acc0 : FVec F S256x1024 .f32 := broadcast S256x1024 (Scalar.ofBits .f32 0x00000000#32)

/-- The accumulator after one more head with keys `k` and values `v`. -/
def headVal (q : FVec F S256x1024 .bf16) (h : Fin 8) (k v : Vec F S4096x128 .f32) (wo : Vec F S128x1024 .f32)
    (acc : FVec F S256x1024 .f32) : FVec F S256x1024 .f32 :=
  addf acc (matmul dot_S256x128_S128x1024_S256x1024_1_0_0_1_n_n none
    (truncf .bf16 (ctxOf (qHead q h) (slab k) (slab v)) bitsLt_bf16_f32)
    (truncf .bf16 (shapeCast S128x1024 wo shapeCasts_S128x1024_S128x1024) bitsLt_bf16_f32)
    (constant S256x1024 .f32 0x00000000#32))

/-- `headVal` of what is loaded. -/
def headStep (q : FVec F S256x1024 .bf16) (h : Fin 8) (k v : Vec F S1x4096x128 .f32) (wo : Vec F S128x1024 .f32)
    (acc : FVec F S256x1024 .f32) : FVec F S256x1024 .f32 :=
  headVal q h (shapeCast S4096x128 k shapeCasts_S1x4096x128_S4096x128)
    (shapeCast S4096x128 v shapeCasts_S1x4096x128_S4096x128) wo acc

theorem slices_quarter (c : Fin 4) : S256x1024.Slices ![0, 256 * c.val] S256x256 := by revert c; decide

/-- One quarter of the accumulator's columns. -/
def quarter (acc : FVec F S256x1024 .f32) (c : Fin 4) : FVec F S256x256 .f32 :=
  extractStridedSlice S256x256 ![0, 256 * c.val] acc (slices_quarter c)

/-- A quarter rounded for sending. -/
def rnd (v : FVec F S256x256 .f32) : FVec F S256x256 .bf16 := truncf .bf16 v bitsLt_bf16_f32

/-- What is stored for sending. -/
def pack (v : FVec F S256x256 .f32) : FVec F S1x256x256 .bf16 :=
  shapeCast S1x256x256 (rnd v) shapeCasts_S256x256_S1x256x256

/-- A quarter plus a received one. -/
def plusX (v : FVec F S256x256 .f32) (r : FVec F S256x256 .bf16) : FVec F S256x256 .f32 :=
  addf v (extf .f32 r bitsLt_bf16_f32)

/-- `plusX` of what is loaded. -/
def plus (v : FVec F S256x256 .f32) (r : Vec F S1x256x256 .bf16) : FVec F S256x256 .f32 :=
  plusX v (shapeCast S256x256 r shapeCasts_S1x256x256_S256x256)

/-- What is stored as a quarter of the result. -/
def outPay (v : FVec F S256x256 .f32) (r : Vec F S1x256x256 .bf16) : FVec F S1x256x256 .f32 :=
  shapeCast S1x256x256 (plus v r) shapeCasts_S256x256_S1x256x256

end Cert.KernelIdeal.Own
-- ==== Proof.Prog.lean ====
/-
# 01_k — the kernel's operations, written once per head and per slot

The printed body is one straight run of some hundred and twenty memory operations. Here it is written with a head
or a slot as a parameter, and `body_eq` says that the printed body is this program.
-/
module

public import proofs.«01_k».proof.Proof.Head
public import proofs.«01_k».proof.Proof.Gen.KernelIdeal.Points

@[expose] public section

noncomputable section

namespace Cert.KernelIdeal.Own

open Idealize.ShloMosaic Idealize.ShloMosaic.TcCoe Idealize.SL.Sem
open Cert.KernelIdeal Cert.KernelIdeal.Gen

variable {F : FTy → Type} [FloatOps F]

/-! ## The buffers' parts -/

abbrev xM : Memref sig .tc .vmem S1x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S1x256x1024 .f32 := Memref.whole cc0_stg3_0
abbrev kM : Memref sig .tc .vmem S8x4096x128 .f32 := Memref.whole cc0_scratch0
abbrev vM : Memref sig .tc .vmem S8x4096x128 .f32 := Memref.whole cc0_scratch1
abbrev sM : Memref sig .tc .vmem S8x256x256 .bf16 := Memref.whole cc0_scratch2
abbrev rM : Memref sig .tc .vmem S8x256x256 .bf16 := Memref.whole cc0_scratch3
abbrev kH : Memref sig .tc .hbm S1x4096x32x128 .f32 := Memref.whole main_arg2
abbrev vH : Memref sig .tc .hbm S1x4096x32x128 .f32 := Memref.whole main_arg3

theorem hsM : sM.IsWhole := Memref.isWhole_whole _
theorem hrM : rM.IsWhole := Memref.isWhole_whole _

theorem inbHead (h : Fin 8) : ∀ a, (![h.val, 0, 0] : Fin 3 → Nat) a + S1x4096x128.size a ≤ S8x4096x128.size a := by
  revert h; decide
theorem inbKv (r : Fin 2) (h : Fin 8) : ∀ a, (![r.val, h.val] : Fin 2 → Nat) a + S1x1.size a ≤ S2x8.size a := by
  revert r h; decide
theorem inbWo (h : Fin 8) : ∀ a, (![128 * h.val, 0] : Fin 2 → Nat) a + S128x1024.size a ≤ S1024x1024.size a := by
  revert h; decide
theorem inbSlot (c : Fin 8) : ∀ a, (![c.val, 0, 0] : Fin 3 → Nat) a + S1x256x256.size a ≤ S8x256x256.size a := by
  revert c; decide
theorem inbSem (c : Fin 8) : ∀ a, (![c.val] : Fin 1 → Nat) a + S1.size a ≤ S8.size a := by
  revert c; decide
theorem inbOut (c : Fin 4) : ∀ a, (![0, 0, 256 * c.val] : Fin 3 → Nat) a + S1x256x256.size a ≤ S1x256x1024.size a := by
  revert c; decide

/-- One head's rows of a key or value buffer. -/
abbrev headR (h : Fin 8) : Rect S8x4096x128 := Rect.unit (s := S8x4096x128) ![h.val, 0, 0] S1x4096x128.size (inbHead h)
/-- One slot of an exchange buffer. -/
abbrev slotR (c : Fin 8) : Rect S8x256x256 := Rect.unit (s := S8x256x256) ![c.val, 0, 0] S1x256x256.size (inbSlot c)
/-- One head's rows of the output weights. -/
abbrev woR (h : Fin 8) : Rect S1024x1024 := Rect.unit (s := S1024x1024) ![128 * h.val, 0] S128x1024.size (inbWo h)
/-- One quarter of the result. -/
abbrev outR (c : Fin 4) : Rect S1x256x1024 := Rect.unit (s := S1x256x1024) ![0, 0, 256 * c.val] S1x256x256.size (inbOut c)
/-- One head of this device in the whole key or value input. -/
abbrev srcR (d : Dev nD) (h : Fin 8) : Rect S1x4096x32x128 :=
  Rect.unit (s := S1x4096x32x128) (k0_off1 d (BitVec.ofNat 32 h.val)) S1x4096x1x128.size (k0_off1_inb d h)

theorem slotWords (c : Fin 8) : (slotR c).WholeWords (EltTy.packing .bf16) := match c with
  | 0 => wordsbf16_S8x256x256_S1x256x256_0_0_0
  | 1 => wordsbf16_S8x256x256_S1x256x256_1_0_0
  | 2 => wordsbf16_S8x256x256_S1x256x256_2_0_0
  | 3 => wordsbf16_S8x256x256_S1x256x256_3_0_0
  | 4 => wordsbf16_S8x256x256_S1x256x256_4_0_0
  | 5 => wordsbf16_S8x256x256_S1x256x256_5_0_0
  | 6 => wordsbf16_S8x256x256_S1x256x256_6_0_0
  | 7 => wordsbf16_S8x256x256_S1x256x256_7_0_0
theorem slotPacked (c : Fin 8) : (slotR c).PackedRows (EltTy.packing .bf16) := match c with
  | 0 => packedbf16_S8x256x256_S1x256x256_0_0_0
  | 1 => packedbf16_S8x256x256_S1x256x256_1_0_0
  | 2 => packedbf16_S8x256x256_S1x256x256_2_0_0
  | 3 => packedbf16_S8x256x256_S1x256x256_3_0_0
  | 4 => packedbf16_S8x256x256_S1x256x256_4_0_0
  | 5 => packedbf16_S8x256x256_S1x256x256_5_0_0
  | 6 => packedbf16_S8x256x256_S1x256x256_6_0_0
  | 7 => packedbf16_S8x256x256_S1x256x256_7_0_0

abbrev kDst (h : Fin 8) : Memref sig .tc .vmem S4096x128 .f32 :=
  (kM.slice (headR h) (fun _ => rfl)).squeeze S4096x128 squeezes_S1x4096x128_S4096x128
abbrev vDst (h : Fin 8) : Memref sig .tc .vmem S4096x128 .f32 :=
  (vM.slice (headR h) (fun _ => rfl)).squeeze S4096x128 squeezes_S1x4096x128_S4096x128
abbrev kSrc (d : Dev nD) (h : Fin 8) : Memref sig .tc .hbm S4096x128 .f32 :=
  (kH.slice (srcR d h) (fun _ => rfl)).squeeze S4096x128 squeezes_S1x4096x1x128_S4096x128
abbrev vSrc (d : Dev nD) (h : Fin 8) : Memref sig .tc .hbm S4096x128 .f32 :=
  (vH.slice (srcR d h) (fun _ => rfl)).squeeze S4096x128 squeezes_S1x4096x1x128_S4096x128
abbrev sSlot (c : Fin 8) : Memref sig .tc .vmem S256x256 .bf16 :=
  (sM.slice (slotR c) (fun _ => rfl)).squeeze S256x256 squeezes_S1x256x256_S256x256
abbrev rSlot (c : Fin 8) : Memref sig .tc .vmem S256x256 .bf16 :=
  (rM.slice (slotR c) (fun _ => rfl)).squeeze S256x256 squeezes_S1x256x256_S256x256

/-! ## The semaphores -/

abbrev barS : Sem sig := (SemArray.scalar (sig.barrier 0 rfl) : Sems sig S_).sem
abbrev kvSemA (r : Fin 2) (h : Fin 8) : DmaSem sig :=
  ((cc0_scratch4.slice (Rect.unit (s := S2x8) ![r.val, h.val] S1x1.size (inbKv r h))).squeeze S_ squeezes_S1x1_S_).sem
abbrev sendSemA (c : Fin 8) : DmaSem sig :=
  ((cc0_scratch5.slice (Rect.unit (s := S8) ![c.val] S1.size (inbSem c))).squeeze S_ squeezes_S1_S_).sem
abbrev recvSemA (c : Fin 8) : DmaSem sig :=
  ((cc0_scratch6.slice (Rect.unit (s := S8) ![c.val] S1.size (inbSem c))).squeeze S_ squeezes_S1_S_).sem

/-- The device a slot is sent to. -/
def tgt (d : Dev nD) (c : Fin 8) : Dev nD := match c with
  | 0 => ⟨k0_dev3 d, k0_dev3_lt d⟩
  | 1 => ⟨k0_dev4 d, k0_dev4_lt d⟩
  | 2 => ⟨k0_dev5 d, k0_dev5_lt d⟩
  | 3 => ⟨k0_dev6 d, k0_dev6_lt d⟩
  | 4 => ⟨k0_dev7 d, k0_dev7_lt d⟩
  | 5 => ⟨k0_dev9 d, k0_dev9_lt d⟩
  | 6 => ⟨k0_dev8 d, k0_dev8_lt d⟩
  | 7 => ⟨k0_dev10 d, k0_dev10_lt d⟩

/-! ## The program -/

/-- The two copies of one head's keys and values are started. -/
def startHead (d : Dev nD) (h : Fin 8) : Prog (TpuEff nD τ sig (Elt F) Λ₀ .tc) PUnit := do
  Prog.lift (.enqueueDma (kSrc d h) (.here (kDst h)) (.dma (kvSemA 0 h)) ((View.wordExact_bits rfl).reshape _ _)
    ((View.wordExact_bits rfl).reshape _ _) ⟨Or.inl rfl, trivial⟩)
  Prog.lift (.enqueueDma (vSrc d h) (.here (vDst h)) (.dma (kvSemA 1 h)) ((View.wordExact_bits rfl).reshape _ _)
    ((View.wordExact_bits rfl).reshape _ _) ⟨Or.inl rfl, trivial⟩)

/-- One head: its two copies are waited for, its rows are read, and the accumulator goes on. -/
def runHead (d : Dev nD) (q : FVec F S256x1024 .bf16) (h : Fin 8) (acc : FVec F S256x1024 .f32) :
    Prog (TpuEff nD τ sig (Elt F) Λ₀ .tc) (FVec F S256x1024 .f32) := do
  Prog.lift (.waitDma2 (kvSemA 0 h) (kSrc d h) (kDst h) ((View.wordExact_bits rfl).reshape _ _)
    ((View.wordExact_bits rfl).reshape _ _))
  Prog.lift (.waitDma2 (kvSemA 1 h) (vSrc d h) (vDst h) ((View.wordExact_bits rfl).reshape _ _)
    ((View.wordExact_bits rfl).reshape _ _))
  let k : Vec F S1x4096x128 .f32 ← Prog.lift (.load kM (headR h).toLoadRect (View.loadsAt_vmem h_S1x4096x128))
  let v : Vec F S1x4096x128 .f32 ← Prog.lift (.load vM (headR h).toLoadRect (View.loadsAt_vmem h_S1x4096x128))
  let wo : Vec F S128x1024 .f32 ← Prog.lift (.load woM (woR h).toLoadRect (View.loadsAt_vmem h_S128x1024))
  pure (headStep q h k v wo acc)

/-- One slot is filled and sent. -/
def sendSlot (d : Dev nD) (c : Fin 8) (pay : FVec F S1x256x256 .bf16) :
    Prog (TpuEff nD τ sig (Elt F) Λ₀ .tc) PUnit := do
  let _ : Vec F S1x256x256 .bf16 ← Prog.lift (.load sM (slotR c).toLoadRect (View.loadsAt_vmem h_S1x256x256))
  Prog.lift (.store sM (slotR c) pay Finset.univ (View.stores_vmem h_S1x256x256
    (hsM.storeExact_slice rfl _ (slotPacked c)) (fun _ => rfl)) (.inl rfl))
  Prog.lift (.enqueueDma (sSlot c) (.remote (Dev.tc (tgt d c)) (rSlot c) (.dma (sendSemA c))) (.dma (recvSemA c))
    ((hsM.wordExact_slice rfl _ (slotWords c)).reshape _ _) ((hrM.wordExact_slice rfl _ (slotWords c)).reshape _ _)
    ⟨⟨rfl, Or.inl rfl⟩, trivial⟩)

/-- One slot's arrival is waited for and read. -/
def recvSlot (c : Fin 8) : Prog (TpuEff nD τ sig (Elt F) Λ₀ .tc) (Vec F S1x256x256 .bf16) := do
  Prog.lift (.waitDma2 (recvSemA c) (sSlot c) (rSlot c) ((hsM.wordExact_slice rfl _ (slotWords c)).reshape _ _)
    ((hrM.wordExact_slice rfl _ (slotWords c)).reshape _ _))
  Prog.lift (.load rM (slotR c).toLoadRect (View.loadsAt_vmem h_S1x256x256))

/-- One quarter of the result is stored. -/
def storeOut (c : Fin 4) (pay : FVec F S1x256x256 .f32) : Prog (TpuEff nD τ sig (Elt F) Λ₀ .tc) PUnit := do
  let _ : Vec F S1x256x256 .f32 ← Prog.lift (.load outM (outR c).toLoadRect (View.loadsAt_vmem h_S1x256x256))
  Prog.lift (.store outM (outR c) pay Finset.univ (View.stores_vmem_bits_univ h_S1x256x256 rfl) (.inl rfl))

/-- One slot's departure is waited for. -/
def doneSlot (c : Fin 8) : Prog (TpuEff nD τ sig (Elt F) Λ₀ .tc) PUnit :=
  Prog.lift (.waitDma2 (sendSemA c) (rSlot c) (sSlot c) ((hrM.wordExact_slice rfl _ (slotWords c)).reshape _ _)
    ((hsM.wordExact_slice rfl _ (slotWords c)).reshape _ _))

/-- Every head's copies are started. -/
def startAll (d : Dev nD) : Prog (TpuEff nD τ sig (Elt F) Λ₀ .tc) PUnit := do
  startHead d 0; startHead d 1; startHead d 2; startHead d 3
  startHead d 4; startHead d 5; startHead d 6; startHead d 7

/-- The scaled queries are computed. -/
def readQ : Prog (TpuEff nD τ sig (Elt F) Λ₀ .tc) (FVec F S256x1024 .bf16) := do
  let x : Vec F S1x256x1024 .f32 ← Prog.lift (.load xM (Rect.unit (s := S1x256x1024) ![0, 0, 0] S1x256x1024.size
    inb_S1x256x1024_S1x256x1024_0_0_0).toLoadRect (View.loadsAt_vmem h_S1x256x1024))
  let wq : Vec F S1024x1024 .f32 ← Prog.lift (.load wqM (Rect.unit (s := S1024x1024) ![0, 0] S1024x1024.size
    inb_S1024x1024_S1024x1024_0_0).toLoadRect (View.loadsAt_vmem h_S1024x1024))
  pure (qOf x wq)

/-- Both partners are told this device is here, and both are waited for. -/
def handshake (d : Dev nD) : Prog (TpuEff nD τ sig (Elt F) Λ₀ .tc) PUnit := do
  semSignalWord (⟨k0_dev1 d, k0_dev1_lt d⟩ : Dev nD) barS 1#32
  semSignalWord (⟨k0_dev2 d, k0_dev2_lt d⟩ : Dev nD) barS 1#32
  semWaitWord barS 2#32

/-- Every head in turn. -/
def runAll (d : Dev nD) (q : FVec F S256x1024 .bf16) :
    Prog (TpuEff nD τ sig (Elt F) Λ₀ .tc) (FVec F S256x1024 .f32) := do
  let a ← runHead d q 0 acc0
  let a ← runHead d q 1 a
  let a ← runHead d q 2 a
  let a ← runHead d q 3 a
  let a ← runHead d q 4 a
  let a ← runHead d q 5 a
  let a ← runHead d q 6 a
  runHead d q 7 a

/-- The first round of sends. -/
def sendAll (d : Dev nD) (a : FVec F S256x1024 .f32) : Prog (TpuEff nD τ sig (Elt F) Λ₀ .tc) PUnit := do
  sendSlot d 0 (pack (quarter a 0)); sendSlot d 1 (pack (quarter a 1))
  sendSlot d 2 (pack (quarter a 2)); sendSlot d 3 (pack (quarter a 3))

/-- One quarter's arrival in the first round is added and sent on in the second. -/
def pass (d : Dev nD) (c c' : Fin 8) (a : FVec F S256x256 .f32) :
    Prog (TpuEff nD τ sig (Elt F) Λ₀ .tc) (Vec F S1x256x256 .bf16) := do
  let r ← recvSlot c
  sendSlot d c' (pack (plus a r))
  pure r

/-- One quarter's arrival in the second round is added and the sum stored. -/
def finish (c' : Fin 8) (c : Fin 4) (a : FVec F S256x256 .f32) : Prog (TpuEff nD τ sig (Elt F) Λ₀ .tc) PUnit := do
  let r ← recvSlot c'
  storeOut c (outPay a r)

/-- Every departure is waited for. -/
def doneAll : Prog (TpuEff nD τ sig (Elt F) Λ₀ .tc) PUnit := do
  doneSlot 0; doneSlot 1; doneSlot 2; doneSlot 3; doneSlot 4; doneSlot 5; doneSlot 6; doneSlot 7

/-- The whole body. -/
def body : Prog (TpuEff nD τ sig (Elt F) Λ₀ .tc) PUnit := do
  let d : Dev nD ← Prog.lift .deviceId
  startAll d
  let q ← readQ
  handshake d
  let a ← runAll d q
  sendAll d a
  let r0 ← pass d 0 4 (quarter a 0)
  let r2 ← pass d 2 6 (quarter a 2)
  let r1 ← pass d 1 5 (quarter a 1)
  let r3 ← pass d 3 7 (quarter a 3)
  finish 4 0 (plus (quarter a 0) r0)
  finish 6 2 (plus (quarter a 2) r2)
  finish 5 1 (plus (quarter a 1) r1)
  finish 7 3 (plus (quarter a 3) r3)
  doneAll

set_option maxRecDepth 100000 in
set_option maxHeartbeats 4000000 in
/-- The printed body is this program. -/
theorem body_eq : cc0_body xM (Memref.isWhole_whole _) wqM (Memref.isWhole_whole _) kH (Memref.isWhole_whole _) vH
    (Memref.isWhole_whole _) woM (Memref.isWhole_whole _) outM (Memref.isWhole_whole _) kM (Memref.isWhole_whole _) vM
    (Memref.isWhole_whole _) sM (Memref.isWhole_whole _) rM (Memref.isWhole_whole _) cc0_scratch4 cc0_scratch5
    cc0_scratch6 = body (F := F) := rfl

end Cert.KernelIdeal.Own
-- ==== Proof.Proto.lean ====
/-
# 01_k — who tells whom what: the exchange as a schedule of rounds

Thirty-three semaphore cells a device: its barrier, and one per copy or send and arrival. Every cell has one round.
The barrier's two units are paid by the two partners, each handing over the four landing slots it is written into;
a local copy's cell hands back the rows copied, a send's cell the slot sent, an arrival's cell the slot filled.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The partners -/

/-- The first partner: 0 with 1, 2 with 3. -/
def p1 : Dev nD → Dev nD := ![1, 0, 3, 2]
/-- The second partner: 0 with 3, 1 with 2. -/
def p2 : Dev nD → Dev nD := ![3, 2, 1, 0]
theorem p1_p1 (d : Dev nD) : p1 (p1 d) = d := by revert d; decide
theorem p2_p2 (d : Dev nD) : p2 (p2 d) = d := by revert d; decide

/-- The device a slot goes to, and comes from. -/
def peer (d : Dev nD) : Fin 8 → Dev nD
  | 0 => p1 d | 1 => p1 d | 2 => p2 d | 3 => p2 d | 4 => p2 d | 5 => p2 d | 6 => p1 d | 7 => p1 d
theorem peer_peer (d : Dev nD) (c : Fin 8) : peer (peer d c) c = d := by revert d c; decide

theorem tgt_eq (d : Dev nD) (c : Fin 8) : tgt d c = peer d c := by revert d c; decide
theorem dev1_eq (d : Dev nD) : (⟨k0_dev1 d, k0_dev1_lt d⟩ : Dev nD) = p1 d := by revert d; decide
theorem dev2_eq (d : Dev nD) : (⟨k0_dev2 d, k0_dev2_lt d⟩ : Dev nD) = p2 d := by revert d; decide

/-! ## The cells -/

abbrev barCell (d : Dev nD) : GSem nD τ sig := ((d : Thread nD τ), .reg barS)
abbrev kvCell (d : Dev nD) (r : Fin 2) (h : Fin 8) : GSem nD τ sig := ((d : Thread nD τ), .dma (kvSemA r h))
abbrev sendCell (d : Dev nD) (c : Fin 8) : GSem nD τ sig := ((d : Thread nD τ), .dma (sendSemA c))
abbrev recvCell (d : Dev nD) (c : Fin 8) : GSem nD τ sig := ((d : Thread nD τ), .dma (recvSemA c))

/-- The kinds of a device's own cells, in the order of their semaphores: keys, values, sends, arrivals. -/
abbrev osem (k : Fin 4 × Fin 8) : SemLoc sig := match k.1 with
  | 0 => .dma (kvSemA 0 k.2) | 1 => .dma (kvSemA 1 k.2) | 2 => .dma (sendSemA k.2) | 3 => .dma (recvSemA k.2)
abbrev csem : Option (Fin 4 × Fin 8) → SemLoc sig
  | none => .reg barS
  | some k => osem k
abbrev kcell (dk : Dev nD × Option (Fin 4 × Fin 8)) : GSem nD τ sig := ((dk.1 : Thread nD τ), csem dk.2)

/-- A semaphore's kind and its head or slot. -/
def dec (q : DmaSem sig) : Fin 4 × Fin 8 :=
  (⟨(q.val - 4) / 8 % 4, Nat.mod_lt _ (by decide)⟩, ⟨(q.val - 4) % 8, Nat.mod_lt _ (by decide)⟩)
theorem dec_k (h : Fin 8) : dec (kvSemA 0 h) = (0, h) := by revert h; decide
theorem dec_v (h : Fin 8) : dec (kvSemA 1 h) = (1, h) := by revert h; decide
theorem dec_send (c : Fin 8) : dec (sendSemA c) = (2, c) := by revert c; decide
theorem dec_recv (c : Fin 8) : dec (recvSemA c) = (3, c) := by revert c; decide

def decL : SemLoc sig → Option (Fin 4 × Fin 8)
  | .reg _ => none
  | .dma q => some (dec q)
theorem decL_csem (k : Option (Fin 4 × Fin 8)) : decL (csem k) = k := by
  match k with
  | none => rfl
  | some (0, h) => exact congrArg some (dec_k h)
  | some (1, h) => exact congrArg some (dec_v h)
  | some (2, h) => exact congrArg some (dec_send h)
  | some (3, h) => exact congrArg some (dec_recv h)

theorem kcell_injective : Function.Injective kcell := by
  rintro ⟨d, k⟩ ⟨d', k'⟩ h
  have h1 : d = d' := congrArg (fun g : GSem nD τ sig => g.1.1) h
  have h2 : csem k = csem k' := congrArg Prod.snd h
  have h3 := congrArg decL h2
  rw [decL_csem, decL_csem] at h3
  rw [h1, h3]

/-- The units of one head's copy, and of one slot's. -/
def NK : ℕ := (kDst 0).view.dmaCredit
def NS : ℕ := (rSlot 0).view.dmaCredit
theorem cr_k (h : Fin 8) : (kDst h).view.dmaCredit = NK := rfl
theorem cr_v (h : Fin 8) : (vDst h).view.dmaCredit = NK := rfl
theorem cr_s (c : Fin 8) : (sSlot c).view.dmaCredit = NS := rfl
theorem cr_r (c : Fin 8) : (rSlot c).view.dmaCredit = NS := rfl
theorem NK_pos : 0 < NK := View.dmaCredit_pos _ (by decide)
theorem NS_pos : 0 < NS := View.dmaCredit_pos _ (by decide)

/-! ## What moves -/

/-- The staged inputs. -/
def xstg (d : Dev nD) : (cc0_stg0_0 : Ref sig .tc).ty.Contents (Elt F) :=
  (win0_0.blk (0 : Fin 1)).view.read (Elt F) (m ((d : Thread nD τ).loc main_arg0))
def wqstg (d : Dev nD) : (cc0_stg1_0 : Ref sig .tc).ty.Contents (Elt F) :=
  (win0_1.blk (0 : Fin 1)).view.read (Elt F) (m ((d : Thread nD τ).loc main_arg1))
def wostg (d : Dev nD) : (cc0_stg2_0 : Ref sig .tc).ty.Contents (Elt F) :=
  (win0_2.blk (0 : Fin 1)).view.read (Elt F) (m ((d : Thread nD τ).loc main_arg4))

/-- A device's scaled queries; one head's keys, values and output weights. -/
def qAt (d : Dev nD) : FVec F S256x1024 .bf16 := qOf (xstg m d) (wqstg m d)
def kX (d : Dev nD) (h : Fin 8) : Vec F S4096x128 .f32 :=
  (kSrc d h).view.read (Elt F) (m ((d : Thread nD τ).loc main_arg2))
def vX (d : Dev nD) (h : Fin 8) : Vec F S4096x128 .f32 :=
  (vSrc d h).view.read (Elt F) (m ((d : Thread nD τ).loc main_arg3))
def woX (d : Dev nD) (h : Fin 8) : Vec F S128x1024 .f32 :=
  (woM).view.readAt (Elt F) (woR h).toLoadRect (wostg m d)

/-- One head's step at a device. -/
def hv (d : Dev nD) (h : Fin 8) (a : FVec F S256x1024 .f32) : FVec F S256x1024 .f32 :=
  headVal (qAt m d) h (kX m d h) (vX m d h) (woX m d h) a
/-- A device's part of the result. -/
def accOf (d : Dev nD) : FVec F S256x1024 .f32 :=
  hv m d 7 (hv m d 6 (hv m d 5 (hv m d 4 (hv m d 3 (hv m d 2 (hv m d 1 (hv m d 0 acc0)))))))

/-- A quarter's slot in the first and in the second round. -/
def lo : Fin 4 → Fin 8 | 0 => 0 | 1 => 1 | 2 => 2 | 3 => 3
def hi : Fin 4 → Fin 8 | 0 => 4 | 1 => 5 | 2 => 6 | 3 => 7

/-- A quarter after the first round. -/
def acc1 (d : Dev nD) (c : Fin 4) : FVec F S256x256 .f32 :=
  plusX (quarter (accOf m d) c) (rnd (quarter (accOf m (peer d (lo c))) c))
/-- What a device sends in each slot. -/
def sent (d : Dev nD) : Fin 8 → FVec F S256x256 .bf16
  | 0 => rnd (quarter (accOf m d) 0) | 1 => rnd (quarter (accOf m d) 1)
  | 2 => rnd (quarter (accOf m d) 2) | 3 => rnd (quarter (accOf m d) 3)
  | 4 => rnd (acc1 m d 0) | 5 => rnd (acc1 m d 1) | 6 => rnd (acc1 m d 2) | 7 => rnd (acc1 m d 3)
/-- A quarter of the result. -/
def outQ (d : Dev nD) (c : Fin 4) : FVec F S256x256 .f32 :=
  plusX (acc1 m d c) (rnd (acc1 m (peer d (hi c)) c))

/-- A slot of the sending or of the landing buffer, at some contents. -/
def sAny (d : Dev nD) (c : Fin 8) : sProp 𝕄 := iprop(∃ f : Buf (Elt F) ((sSlot c).view.loc (d : Thread nD τ)),
  ((sSlot c).view.loc (d : Thread nD τ)) ↦[(sSlot c).view.set]{fullShare} f)
def rAny (d : Dev nD) (c : Fin 8) : sProp 𝕄 := iprop(∃ f : Buf (Elt F) ((rSlot c).view.loc (d : Thread nD τ)),
  ((rSlot c).view.loc (d : Thread nD τ)) ↦[(rSlot c).view.set]{fullShare} f)
/-- A head's rows of the key or of the value buffer, at some contents. -/
def kAny (d : Dev nD) (h : Fin 8) : sProp 𝕄 := iprop(∃ f : Buf (Elt F) ((kDst h).view.loc (d : Thread nD τ)),
  ((kDst h).view.loc (d : Thread nD τ)) ↦[(kDst h).view.set]{fullShare} f)
def vAny (d : Dev nD) (h : Fin 8) : sProp 𝕄 := iprop(∃ f : Buf (Elt F) ((vDst h).view.loc (d : Thread nD τ)),
  ((vDst h).view.loc (d : Thread nD τ)) ↦[(vDst h).view.set]{fullShare} f)
/-- A filled one. -/
def sGot (d : Dev nD) (c : Fin 8) (X : FVec F S256x256 .bf16) : sProp 𝕄 := owns (d : Thread nD τ) (sSlot c) fullShare X
def rGot (d : Dev nD) (c : Fin 8) : sProp 𝕄 := owns (d : Thread nD τ) (rSlot c) fullShare (sent m (peer d c) c)
def kGot (d : Dev nD) (h : Fin 8) : sProp 𝕄 := owns (d : Thread nD τ) (kDst h) fullShare (kX m d h)
def vGot (d : Dev nD) (h : Fin 8) : sProp 𝕄 := owns (d : Thread nD τ) (vDst h) fullShare (vX m d h)

/-- What a device hands its first and its second partner. -/
def hand1 (d : Dev nD) : sProp 𝕄 := iprop(rAny d 0 ∗ rAny d 1 ∗ rAny d 6 ∗ rAny d 7)
def hand2 (d : Dev nD) : sProp 𝕄 := iprop(rAny d 2 ∗ rAny d 3 ∗ rAny d 4 ∗ rAny d 5)

instance sAny_storable (d : Dev nD) (c : Fin 8) : BI.Storable (upEmb : UEmb _ 𝕄) (sAny (F := F) d c) := by
  unfold sAny; infer_instance
instance rAny_storable (d : Dev nD) (c : Fin 8) : BI.Storable (upEmb : UEmb _ 𝕄) (rAny (F := F) d c) := by
  unfold rAny; infer_instance
instance rGot_storable (d : Dev nD) (c : Fin 8) : BI.Storable (upEmb : UEmb _ 𝕄) (rGot (F := F) m d c) := by
  unfold rGot; infer_instance
instance kGot_storable (d : Dev nD) (c : Fin 8) : BI.Storable (upEmb : UEmb _ 𝕄) (kGot (F := F) m d c) := by
  unfold kGot; infer_instance
instance vGot_storable (d : Dev nD) (c : Fin 8) : BI.Storable (upEmb : UEmb _ 𝕄) (vGot (F := F) m d c) := by
  unfold vGot; infer_instance
instance hand1_storable (d : Dev nD) : BI.Storable (upEmb : UEmb _ 𝕄) (hand1 (F := F) d) := by
  unfold hand1; infer_instance
instance hand2_storable (d : Dev nD) : BI.Storable (upEmb : UEmb _ 𝕄) (hand2 (F := F) d) := by
  unfold hand2; infer_instance

/-! ## The schedule -/

/-- What an own cell's wait brings. -/
def dmaPay (d : Dev nD) (k : Fin 4 × Fin 8) : sProp 𝕄 := match k.1 with
  | 0 => kGot m d k.2 | 1 => vGot m d k.2 | 2 => sAny d k.2 | 3 => rGot m d k.2
/-- What a barrier's duty brings. -/
def barPay (d : Dev nD) : Bool → sProp 𝕄
  | false => hand1 (p1 d)
  | true => hand2 (p2 d)
/-- What any cell's duty brings. -/
def payOf (d : Dev nD) (b : Bool) : SemLoc sig → sProp 𝕄
  | .reg _ => barPay d b
  | .dma q => dmaPay m d (dec q)
def amountOf : SemLoc sig → ℕ
  | .reg _ => 1
  | .dma q => if (dec q).1.val < 2 then NK else NS
def dutiesOf : SemLoc sig → Finset Bool
  | .reg _ => Finset.univ
  | .dma _ => {false}

instance payOf_storable (d : Dev nD) (b : Bool) (s : SemLoc sig) :
    BI.Storable (upEmb : UEmb _ 𝕄) (payOf m d b s) := by
  match s, b with
  | .reg _, false => exact hand1_storable _
  | .reg _, true => exact hand2_storable _
  | .dma q, _ =>
    show BI.Storable upEmb (dmaPay m d (dec q))
    unfold dmaPay; split <;> infer_instance

def Rd : Rounds.Schedule (GSem nD τ sig) Bool 𝕄 where
  duties g r := if r = 0 then dutiesOf g.2 else ∅
  unitless _ := False
  amount g _ _ := amountOf g.2
  payload g _ b := payOf m g.1.1 b g.2
  amount_pos g _ _ _ := by
    rcases g.2 with s | q
    · exact Nat.one_pos
    · show 0 < ite _ _ _
      split
      · exact NK_pos
      · exact NS_pos

instance Rd_payload_storable (g : GSem nD τ sig) (r : ℕ) (b : Bool) :
    BI.Storable (upEmb : UEmb _ 𝕄) ((Rd (F := F) m).payload g r b) := payOf_storable m g.1.1 b g.2

section Sched
variable (d : Dev nD)

theorem duties_bar : (Rd (F := F) m).duties (barCell d) 0 = Finset.univ := by
  rfl
theorem duties_dma (t : Thread nD τ) (q : DmaSem sig) : (Rd (F := F) m).duties (t, .dma q) 0 = {false} := by
  rfl
theorem mem_dma (t : Thread nD τ) (q : DmaSem sig) : false ∈ (Rd (F := F) m).duties (t, .dma q) 0 := by
  rw [duties_dma]; exact Finset.mem_singleton_self _
theorem duties_later (g : GSem nD τ sig) : ∀ r, 1 ≤ r → (Rd (F := F) m).duties g r = ∅ :=
  fun r hr => if_neg (by omega)

theorem amount_k (h : Fin 8) : (Rd (F := F) m).amount (kvCell d 0 h) 0 false = NK := by
  show ite _ _ _ = _; rw [dec_k]; rfl
theorem amount_v (h : Fin 8) : (Rd (F := F) m).amount (kvCell d 1 h) 0 false = NK := by
  show ite _ _ _ = _; rw [dec_v]; rfl
theorem amount_send (c : Fin 8) : (Rd (F := F) m).amount (sendCell d c) 0 false = NS := by
  show ite _ _ _ = _; rw [dec_send]; rfl
theorem amount_recv (c : Fin 8) : (Rd (F := F) m).amount (recvCell d c) 0 false = NS := by
  show ite _ _ _ = _; rw [dec_recv]; rfl

theorem expect_bar : (Rd (F := F) m).expect (barCell d) 0 = 2 := by
  unfold Schedule.expect Schedule.amountOf
  rw [duties_bar]; rfl
theorem expect_dma (t : Thread nD τ) (q : DmaSem sig) :
    (Rd (F := F) m).expect (t, .dma q) 0 = (Rd (F := F) m).amount (t, .dma q) 0 false := by
  unfold Schedule.expect Schedule.amountOf; rw [duties_dma, Finset.sum_singleton]

theorem payload_k (h : Fin 8) : (Rd (F := F) m).payload (kvCell d 0 h) 0 false = kGot m d h := by
  show dmaPay m d (dec _) = _; rw [dec_k]; rfl
theorem payload_v (h : Fin 8) : (Rd (F := F) m).payload (kvCell d 1 h) 0 false = vGot m d h := by
  show dmaPay m d (dec _) = _; rw [dec_v]; rfl
theorem payload_send (c : Fin 8) : (Rd (F := F) m).payload (sendCell d c) 0 false = sAny d c := by
  show dmaPay m d (dec _) = _; rw [dec_send]; rfl
theorem payload_recv (c : Fin 8) : (Rd (F := F) m).payload (recvCell d c) 0 false = rGot m d c := by
  show dmaPay m d (dec _) = _; rw [dec_recv]; rfl

/-- The rest of a barrier's round: both partners' landing slots. -/
theorem rest_bar : bigSep ((Rd (F := F) m).duties (barCell d) 0 \ ∅) (fun b => (Rd (F := F) m).payload (barCell d) 0 b)
    = iprop(hand1 (p1 d) ∗ hand2 (p2 d)) := by
  rw [Finset.sdiff_empty, duties_bar, bigSep_univ_eq_bigSepL [false, true] (by decide) (by decide), bigSepL_cons_cons,
    bigSepL_singleton]
  rfl
theorem rest_dma (t : Thread nD τ) (q : DmaSem sig) :
    bigSep ((Rd (F := F) m).duties (t, .dma q) 0 \ ∅) (fun b => (Rd (F := F) m).payload (t, .dma q) 0 b)
      = (Rd (F := F) m).payload (t, .dma q) 0 false := by
  rw [Finset.sdiff_empty, duties_dma, bigSep_singleton]

end Sched

/-! ## What is owed, and the order of waiting -/

/-- What a device owes for the slots still to be sent. -/
def owe (d : Dev nD) : List (Fin 8) → CellTallies nD τ sig Unit
  | [] => 0
  | c :: l => owe d l + tallyAt (recvCell (peer d c) c) () NS
/-- The slots in the order they are sent. -/
abbrev order : List (Fin 8) := [0, 1, 2, 3, 4, 6, 5, 7]
def O₁ (d : Dev nD) : CellTallies nD τ sig Unit := owe d order + tallyAt (barCell (p2 d)) () 1
def O₀ (d : Dev nD) : CellTallies nD τ sig Unit := O₁ d + tallyAt (barCell (p1 d)) () 1

def L (g : GSem nD τ sig) : Finset Unit := if g.1.2 = .tc then {()} else ∅
/-- Barriers first, then the first round's arrivals, then the second's; everything else before. -/
def lv (g : GSem nD τ sig) (_ : Unit) : ℕ := match g.2 with
  | .reg _ => 1
  | .dma q => if (dec q).1.val < 3 ∨ q.val < 4 then 0 else if (dec q).2.val < 4 then 2 else 3

theorem L_of_ne (g : GSem nD τ sig) (h : g.1.2 ≠ .tc) : L g = ∅ := if_neg h
theorem L_tc (d : Dev nD) (sm : SemLoc sig) : L ((d : Thread nD τ), sm) = {()} := if_pos rfl

theorem lv_recv (d : Dev nD) (c : Fin 8) : lv (recvCell d c) () = if c.val < 4 then 2 else 3 := by
  revert c; intro c
  show ite _ _ _ = _
  revert c; decide

theorem tally_pos {g g' : GSem nD τ sig} {u : Unit} {k : ℕ} (h : 0 < (tallyAt g' () k : CellTallies nD τ sig Unit) g u) :
    g = g' := by
  rw [tallyAt_apply] at h
  by_contra hn
  rw [if_neg (fun h' => hn h'.1)] at h
  exact Nat.lt_irrefl 0 h

theorem owe_pos {d : Dev nD} {l : List (Fin 8)} {g : GSem nD τ sig} {u : Unit} (h : 0 < owe d l g u) :
    ∃ c ∈ l, g = recvCell (peer d c) c := by
  induction l with
  | nil => exact absurd h (Nat.lt_irrefl 0)
  | cons c l ih =>
    unfold owe at h
    rw [Pi.add_apply, Finsupp.add_apply] at h
    rcases Nat.eq_zero_or_pos (owe d l g u) with h0 | h0
    · rw [h0, Nat.zero_add] at h
      exact ⟨c, List.mem_cons_self, tally_pos h⟩
    · obtain ⟨x, hx, e⟩ := ih h0
      exact ⟨x, List.mem_cons_of_mem _ hx, e⟩

theorem O₀_pos {d : Dev nD} {g : GSem nD τ sig} {u : Unit} (h : 0 < O₀ d g u) :
    (∃ c, g = recvCell (peer d c) c) ∨ ∃ e, g = barCell e := by
  unfold O₀ O₁ at h
  rw [Pi.add_apply, Finsupp.add_apply, Pi.add_apply, Finsupp.add_apply] at h
  by_contra hn
  rw [not_or] at hn
  have h1 : owe d order g u = 0 := Nat.eq_zero_of_not_pos fun h' => hn.1 (by obtain ⟨x, _, e⟩ := owe_pos h'; exact ⟨x, e⟩)
  have h2 : (tallyAt (barCell (p2 d)) () 1 : CellTallies nD τ sig Unit) g u = 0 :=
    Nat.eq_zero_of_not_pos fun h' => hn.2 ⟨_, tally_pos h'⟩
  have h3 : (tallyAt (barCell (p1 d)) () 1 : CellTallies nD τ sig Unit) g u = 0 :=
    Nat.eq_zero_of_not_pos fun h' => hn.2 ⟨_, tally_pos h'⟩
  rw [h1, h2, h3] at h
  exact Nat.lt_irrefl 0 h

/-- A wait below every slot still owed. -/
theorem mayWait_owe (d : Dev nD) (sm : SemLoc sig) (l : List (Fin 8))
    (hl : ∀ c ∈ l, lv ((d : Thread nD τ), sm) () < if c.val < 4 then 2 else 3) :
    (levAts L lv : sProp 𝕄) ⊢ MayWait (d : Thread nD τ) sm () (owe d l) :=
  MayOwe.of_cut (L := L) (lev := lv) (lv ((d : Thread nD τ), sm) ())
    (fun p hp => by rw [Finset.mem_singleton.mp hp, L_tc]; exact Finset.mem_singleton_self _)
    (fun g u hg => by obtain ⟨c, _, rfl⟩ := owe_pos hg; rw [L_tc]; exact Finset.mem_singleton_self _)
    (fun p hp => by rw [Finset.mem_singleton.mp hp])
    (fun g u hg => by obtain ⟨c, hc, rfl⟩ := owe_pos hg; exact lt_of_lt_of_eq (hl c hc) (lv_recv _ c).symm)

/-- The staging copies' waits, before and after the body. -/
theorem mayWait_stage (d : Dev nD) (q : DmaSem sig) (hq : q.val < 4) (O : CellTallies nD τ sig Unit)
    (hO : O = O₀ d ∨ O = 0) : (levAts L lv : sProp 𝕄) ⊢ MayWait (d : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨c, rfl⟩ | ⟨e, rfl⟩ <;> rw [L_tc] <;> exact Finset.mem_singleton_self _)
      (fun p hp => by rw [Finset.mem_singleton.mp hp]; exact le_of_eq (if_pos (Or.inr hq)))
      (fun g u hg => by
        rcases O₀_pos hg with ⟨c, rfl⟩ | ⟨e, rfl⟩
        · cases u; rw [lv_recv]; split <;> decide
        · exact Nat.one_pos)
  · rw [MayWait_zero]; iintro -; iempintro

/-! ## What everyone knows -/

/-- Every cell's invariant under the names `K`, every cell's first round reached, and the order of waiting. -/
def records (K : Dev nD × Option (Fin 4 × Fin 8) → ℕ) : sProp 𝕄 :=
  iprop((bigSep Finset.univ fun ck => cellInv ER (Rd m) (K ck) (kcell ck))
    ∗ (bigSep Finset.univ fun ck => reached ER (kcell ck) 0) ∗ levAts L lv)

instance records_persistent (K) : BI.Persistent (records (F := F) m K) := by unfold records; infer_instance

theorem inv_at (K : Dev nD × Option (Fin 4 × Fin 8) → ℕ) (ck) :
    records (F := F) m K ⊢ cellInv ER (Rd m) (K ck) (kcell ck) := by
  unfold records
  iintro ⟨#HI, -, -⟩
  iapply (show (bigSep Finset.univ fun ck => (cellInv ER (Rd m) (K ck) (kcell ck) : sProp 𝕄)) ⊢ _ from
    bigSep_elim (Finset.mem_univ ck))
  iexact HI
theorem reached_at (K : Dev nD × Option (Fin 4 × Fin 8) → ℕ) (ck) :
    records (F := F) m K ⊢ reached ER (kcell ck) 0 := by
  unfold records
  iintro ⟨-, #HI, -⟩
  iapply (show (bigSep Finset.univ fun ck => (reached ER (kcell ck) 0 : sProp 𝕄)) ⊢ _ from
    bigSep_elim (Finset.mem_univ ck))
  iexact HI
theorem lev_at (K : Dev nD × Option (Fin 4 × Fin 8) → ℕ) : records (F := F) m K ⊢ levAts L lv := by
  unfold records
  iintro ⟨-, -, #HI⟩
  iexact HI

end Cert.KernelIdeal.Own
-- ==== Proof.Steps.lean ====
/-
# 01_k — the kernel's operations, each with what it needs and what it leaves

One statement per operation of `Prog`, for any head or slot; the body's proof puts them one after another.
-/
module

public import proofs.«01_k».proof.Proof.Proto
public import Idealize.ShloMosaic.Lib.Pipeline.Value

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Option (Fin 4 × Fin 8) → ℕ) (d : Dev nD)

/-- A body part's run at a device. -/
abbrev RunsTo {α : Type} (d : Dev nD) (p : Prog (TpuEff nD τ sig (Elt F) Λ₀ .tc) α) (Q : α → sProp 𝕄) : sProp 𝕄 :=
  wp frame (wpE (defs₀ (F := F)) 𝒱₀ (d : Thread nD τ) none) Set.univ p Q

/-- What a device still owes, whatever it has waited on. -/
def ow (O : CellTallies nD τ sig Unit) : sProp 𝕄 := iprop(∃ W, owes (d : Thread nD τ) O W)

/-- A share of one head's source rows. -/
def srcK (h : Fin 8) (q : PosShare TreeShare) : sProp 𝕄 :=
  ((kSrc d h).view.loc (d : Thread nD τ)) ↦[(kSrc d h).view.set]{q} (m ((d : Thread nD τ).loc main_arg2))
def srcV (h : Fin 8) (q : PosShare TreeShare) : sProp 𝕄 :=
  ((vSrc d h).view.loc (d : Thread nD τ)) ↦[(vSrc d h).view.set]{q} (m ((d : Thread nD τ).loc main_arg3))

/-- A whole staged buffer at given contents. -/
abbrev pts (b : Ref sig .tc) (X : b.ty.Contents (Elt F)) : sProp 𝕄 :=
  (((d : Thread nD τ).loc b) ↦{fullShare} (X : Buf (Elt F) ((d : Thread nD τ).loc b)))

theorem kGot_intro (h : Fin 8) (f : Buf (Elt F) ((kDst h).view.loc (d : Thread nD τ))) (q : PosShare TreeShare) :
    (iprop(((kDst h).view.loc (d : Thread nD τ) ↦[(kDst h).view.set]{fullShare} ((kDst h).view.write (Elt F) f
        ((kSrc d h).view.read (Elt F) (m ((d : Thread nD τ).loc main_arg2))) Finset.univ))
      ∗ ((kSrc d h).view.loc (d : Thread nD τ) ↦[(kSrc d h).view.set]{q} (m ((d : Thread nD τ).loc main_arg2)))) : sProp 𝕄)
      ⊢ kGot m d h := by
  unfold kGot owns
  iintro ⟨H, -⟩
  iexists ((kDst h).view.write (Elt F) f ((kSrc d h).view.read (Elt F) (m ((d : Thread nD τ).loc main_arg2))) Finset.univ)
  isplitr
  · ipureintro
    exact View.read_write_univ _ _
  iexact H

theorem vGot_intro (h : Fin 8) (f : Buf (Elt F) ((vDst h).view.loc (d : Thread nD τ))) (q : PosShare TreeShare) :
    (iprop(((vDst h).view.loc (d : Thread nD τ) ↦[(vDst h).view.set]{fullShare} ((vDst h).view.write (Elt F) f
        ((vSrc d h).view.read (Elt F) (m ((d : Thread nD τ).loc main_arg3))) Finset.univ))
      ∗ ((vSrc d h).view.loc (d : Thread nD τ) ↦[(vSrc d h).view.set]{q} (m ((d : Thread nD τ).loc main_arg3)))) : sProp 𝕄)
      ⊢ vGot m d h := by
  unfold vGot owns
  iintro ⟨H, -⟩
  iexists ((vDst h).view.write (Elt F) f ((vSrc d h).view.read (Elt F) (m ((d : Thread nD τ).loc main_arg3))) Finset.univ)
  isplitr
  · ipureintro
    exact View.read_write_univ _ _
  iexact H

theorem startHead_spec (h : Fin 8) (q q' : PosShare TreeShare) (Q : PUnit → sProp 𝕄) :
    iprop(records m K ∗ srcK m d h q ∗ srcV m d h q' ∗ kAny d h ∗ vAny d h
        ∗ dutyTok ER (kvCell d 0 h) 0 false ∗ dutyTok ER (kvCell d 1 h) 0 false)
      ⊢ iprop(((cred (tallyAt (kvCell d 0 h) () NK) ∗ cred (tallyAt (kvCell d 1 h) () NK)) -∗ Q ⟨⟩)
          -∗ RunsTo d (startHead d h) Q) := by
  simp only [startHead, Prog.lift, Prog.bind_op, Prog.bind_ret]
  unfold srcK srcV kAny vAny
  iintro ⟨#HR, Hk, Hv, ⟨%fk, Hkd⟩, ⟨%fv, Hvd⟩, Htk, Htv⟩ HQ
  iapply (Rounds.wp_copy_pointsTo 𝒱₀ ER (Rd m) (d : Thread nD τ) none (κ := K (d, some (0, h))) (r := 0) (d := false)
    (mem_dma m _ _) () NK (cr_k h) (amount_k m d h) (by rw [payload_k]; exact kGot_intro m d h fk q)) $$ [Hk Hkd Htk]
  · isplitr; · iapply (inv_at m K (d, some (0, h))); iexact HR
    isplitl [Hk]; · iexact Hk
    isplitl [Hkd]; · iexact Hkd
    isplitl [Htk]; · iexact Htk
    iapply (reached_at m K (d, some (0, h))); iexact HR
  iintro Hck
  iapply (Rounds.wp_copy_pointsTo 𝒱₀ ER (Rd m) (d : Thread nD τ) none (κ := K (d, some (1, h))) (r := 0) (d := false)
    (mem_dma m _ _) () NK (cr_v h) (amount_v m d h) (by rw [payload_v]; exact vGot_intro m d h fv q')) $$ [Hv Hvd Htv]
  · isplitr; · iapply (inv_at m K (d, some (1, h))); iexact HR
    isplitl [Hv]; · iexact Hv
    isplitl [Hvd]; · iexact Hvd
    isplitl [Htv]; · iexact Htv
    iapply (reached_at m K (d, some (1, h))); iexact HR
  iintro Hcv
  rw [wp_ret]; imodintro
  iapply HQ
  isplitl [Hck] <;> iassumption

theorem lv_kv (r : Fin 2) (h : Fin 8) : lv (kvCell d r h) () = 0 := by
  show ite _ _ _ = _
  revert r h; decide
theorem lv_send (c : Fin 8) : lv (sendCell d c) () = 0 := by
  show ite _ _ _ = _
  revert c; decide

theorem runHead_spec (q : FVec F S256x1024 .bf16) (h : Fin 8) (acc : FVec F S256x1024 .f32) (l : List (Fin 8))
    (Q : FVec F S256x1024 .f32 → sProp 𝕄) :
    iprop(records m K ∗ cred (tallyAt (kvCell d 0 h) () NK) ∗ cred (tallyAt (kvCell d 1 h) () NK)
        ∗ atPos ER (kvCell d 0 h) 0 ∅ 0 ∗ atPos ER (kvCell d 1 h) 0 ∅ 0
        ∗ ow d (owe d l) ∗ pts d cc0_stg2_0 (wostg m d))
      ⊢ iprop(((kGot m d h ∗ vGot m d h ∗ atPos ER (kvCell d 0 h) (0 + 1) ∅ 0 ∗ atPos ER (kvCell d 1 h) (0 + 1) ∅ 0
            ∗ ow d (owe d l) ∗ pts d cc0_stg2_0 (wostg m d))
          -∗ Q (headVal q h (kX m d h) (vX m d h) (woX m d h) acc))
          -∗ RunsTo d (runHead d q h acc) Q) := by
  simp only [runHead, Prog.lift, Prog.bind_op, Prog.bind_ret, Prog.pure_eq_ret]
  unfold ow
  iintro ⟨#HR, Hck, Hcv, Hak, Hav, ⟨%W, HO⟩, Hwo⟩ HQ
  iapply (Rounds.wp_wait_rest_token 𝒱₀ ER (Rd m) (d : Thread nD τ) none (κ := K (d, some (0, h)))
      (wpE_waitDma2_eq 𝒱₀ (d : Thread nD τ) none Set.univ) (Set.mem_univ _) () (O := owe d l) (W := W) (R := 0) (m := 0) (T := ∅)
      (by rw [Nat.zero_add, expect_dma, amount_k, cr_k])) $$ [Hck HO Hak]
  · isplitr; · iapply (inv_at m K (d, some (0, h))); iexact HR
    isplitl [Hck]; · iexact Hck
    isplitl [HO]; · iexact HO
    isplitr
    · iapply (mayWait_owe d _ l (fun c _ => by rw [lv_kv d 0 h]; split <;> decide)); iapply (lev_at m K); iexact HR
    iexact Hak
  iintro ⟨HO, Hak, -, Hpay⟩
  ihave Hk := (Entails.of_eq ((rest_dma m _ _).trans (payload_k m d h))) $$ Hpay
  iapply (Rounds.wp_wait_rest_token 𝒱₀ ER (Rd m) (d : Thread nD τ) none (κ := K (d, some (1, h)))
      (wpE_waitDma2_eq 𝒱₀ (d : Thread nD τ) none Set.univ) (Set.mem_univ _) () (O := owe d l) (R := 0) (m := 0) (T := ∅)
      (by rw [Nat.zero_add, expect_dma, amount_v, cr_v])) $$ [Hcv HO Hav]
  · isplitr; · iapply (inv_at m K (d, some (1, h))); iexact HR
    isplitl [Hcv]; · iexact Hcv
    isplitl [HO]; · iexact HO
    isplitr
    · iapply (mayWait_owe d _ l (fun c _ => by rw [lv_kv d 1 h]; split <;> decide)); iapply (lev_at m K); iexact HR
    iexact Hav
  iintro ⟨HO, Hav, -, Hpay⟩
  ihave Hv := (Entails.of_eq ((rest_dma m _ _).trans (payload_v m d h))) $$ Hpay
  unfold kGot vGot owns
  icases Hk with ⟨%fk, %hk, Hk⟩
  icases Hv with ⟨%fv, %hv, Hv⟩
  iapply (wp_load 𝒱₀ (d : Thread nD τ) none Set.univ (m := kM) (S := (kDst h).view.set)
    (by rw [View.set_reshape, View.set_slice]; exact Finset.Subset.refl _)) $$ Hk; iintro Hk
  iapply (wp_load 𝒱₀ (d : Thread nD τ) none Set.univ (m := vM) (S := (vDst h).view.set)
    (by rw [View.set_reshape, View.set_slice]; exact Finset.Subset.refl _)) $$ Hv; iintro Hv
  iapply (wp_load 𝒱₀ (d : Thread nD τ) none Set.univ (m := woM) (Finset.subset_univ _)) $$ Hwo; iintro Hwo
  rw [wp_ret]; imodintro
  rw [show headStep q h (kM.view.readAt (Elt F) (headR h).toLoadRect fk) (vM.view.readAt (Elt F) (headR h).toLoadRect fv)
      (woM.view.readAt (Elt F) (woR h).toLoadRect (wostg m d)) acc
      = headVal q h (kX m d h) (vX m d h) (woX m d h) acc from by rw [← hk, ← hv]; rfl]
  iapply HQ
  isplitl [Hk]
  · iexists fk; isplitr; · (ipureintro; exact hk)
    iexact Hk
  isplitl [Hv]
  · iexists fv; isplitr; · (ipureintro; exact hv)
    iexact Hv
  isplitl [Hak]; · iexact Hak
  isplitl [Hav]; · iexact Hav
  isplitl [HO]; · iexists _; iexact HO
  iexact Hwo

theorem rGot_intro (c : Fin 8) (fs : Buf (Elt F) ((sSlot c).view.loc (d : Thread nD τ)))
    (fd : Buf (Elt F) ((rSlot c).view.loc (peer d c : Thread nD τ)))
    (h : (sSlot c).view.read (Elt F) fs = sent m d c) :
    (((rSlot c).view.loc (peer d c : Thread nD τ) ↦[(rSlot c).view.set]{fullShare} ((rSlot c).view.write (Elt F) fd
        ((sSlot c).view.read (Elt F) fs) Finset.univ)) : sProp 𝕄) ⊢ rGot m (peer d c) c := by
  unfold rGot owns
  iintro H
  iexists ((rSlot c).view.write (Elt F) fd ((sSlot c).view.read (Elt F) fs) Finset.univ)
  isplitr
  · ipureintro
    rw [peer_peer, ← h]
    exact View.read_write_univ _ _
  iexact H

/-- The transfer of one filled slot, addressed to `n`. -/
theorem wp_send_slot (c : Fin 8) (n : Dev nD) (hn : n = peer d c)
    {hsc : (rSlot c : Memref sig (Dev.tc n : Thread nD τ).2.kind .vmem S256x256 .bf16).view.ref.isScScratch = false}
    {hsrc : (sSlot c).view.WordExact} {hdst : (rSlot c).view.WordExact}
    {hsem : DmaTarget.Typed .vmem (.dma (recvSemA c)) (.remote (Dev.tc n : Thread nD τ)
      (rSlot c : Memref sig .tc .vmem S256x256 .bf16) (.dma (sendSemA c)) hsc)}
    {α : Type} {Q : α → sProp 𝕄} {k : PUnit → Prog (TpuEff nD τ sig (Elt F) Λ₀ .tc) α}
    (fs : Buf (Elt F) ((sSlot c).view.loc (d : Thread nD τ)))
    (fd : Buf (Elt F) ((rSlot c).view.loc (peer d c : Thread nD τ)))
    (h : (sSlot c).view.read (Elt F) fs = sent m d c) (l : List (Fin 8)) (W : Waits sig Unit) :
    iprop(records m K ∗ ((sSlot c).view.loc (d : Thread nD τ) ↦[(sSlot c).view.set]{fullShare} fs)
        ∗ ((rSlot c).view.loc (peer d c : Thread nD τ) ↦[(rSlot c).view.set]{fullShare} fd)
        ∗ owes (d : Thread nD τ) (owe d (c :: l)) W
        ∗ dutyTok ER (sendCell d c) 0 false ∗ dutyTok ER (recvCell (peer d c) c) 0 false)
      ⊢ iprop(((cred (tallyAt (sendCell d c) () NS) ∗ owes (d : Thread nD τ) (owe d l) W) -∗ RunsTo d (k ⟨⟩) Q)
          -∗ RunsTo d (.op (.enqueueDma (sSlot c) (.remote (Dev.tc n : Thread nD τ) (rSlot c) (.dma (sendSemA c)) hsc)
              (.dma (recvSemA c)) hsrc hdst hsem) k) Q) := by
  subst hn
  iintro ⟨#HR, Hs, Hd, HO, Hts, Htr⟩ HQ
  iapply (Rounds.wp_send_pointsTo 𝒱₀ ER (Rd m) (d : Thread nD τ) none (κ₁ := K (d, some (2, c)))
    (κ₂ := K (peer d c, some (3, c))) (r₁ := 0) (r₂ := 0) (d₁ := false) (d₂ := false) (fd := fd)
    (mem_dma m _ _) (mem_dma m _ _) () () NS (cr_r c) (amount_send m d c) (amount_recv m (peer d c) c) (owe d l) rfl (W := W)
    (by rw [payload_send]; unfold sAny; iintro H; iexists fs; iexact H)
    (by rw [payload_recv]; exact rGot_intro m d c fs fd h)) $$ [Hs Hd HO Hts Htr]
  · isplitr; · iapply (inv_at m K (d, some (2, c))); iexact HR
    isplitr; · iapply (inv_at m K (peer d c, some (3, c))); iexact HR
    isplitl [Hs]; · iexact Hs
    isplitl [Hd]; · iexact Hd
    isplitl [HO]; · iexact HO
    isplitl [Hts]; · iexact Hts
    isplitr; · iapply (reached_at m K (d, some (2, c))); iexact HR
    isplitl [Htr]; · iexact Htr
    iapply (reached_at m K (peer d c, some (3, c))); iexact HR
  iexact HQ

theorem slot_subset (c : Fin 8) : (sM.access (slotR c)).setOn Finset.univ ⊆ (sSlot c).view.set := by
  rw [View.set_reshape]; exact Finset.Subset.refl _

theorem read_slot (c : Fin 8) (f : Buf (Elt F) ((sSlot c).view.loc (d : Thread nD τ))) (v : FVec F S256x256 .f32) :
    (sSlot c).view.read (Elt F) ((sM.access (slotR c)).write (Elt F) f (pack v) Finset.univ) = rnd v := by
  show shapeCast S256x256 ((sM.access (slotR c)).read (Elt F) ((sM.access (slotR c)).write (Elt F) f (pack v) Finset.univ))
    shapeCasts_S1x256x256_S256x256 = _
  rw [View.read_write_univ]
  unfold pack
  exact shapeCast_shapeCast _ _ _

theorem sendSlot_spec (c : Fin 8) (v : FVec F S256x256 .f32) (hv : rnd v = sent m d c) (l : List (Fin 8))
    (Q : PUnit → sProp 𝕄) :
    iprop(records m K ∗ sAny d c ∗ rAny (peer d c) c ∗ ow d (owe d (c :: l))
        ∗ dutyTok ER (sendCell d c) 0 false ∗ dutyTok ER (recvCell (peer d c) c) 0 false)
      ⊢ iprop(((cred (tallyAt (sendCell d c) () NS) ∗ ow d (owe d l)) -∗ Q ⟨⟩)
          -∗ RunsTo d (sendSlot d c (pack v)) Q) := by
  simp only [sendSlot, Prog.lift, Prog.bind_op, Prog.bind_ret]
  unfold sAny rAny ow
  iintro ⟨#HR, ⟨%fs, Hs⟩, ⟨%fd, Hd⟩, ⟨%W, HO⟩, Hts, Htr⟩ HQ
  iapply (wp_load 𝒱₀ (d : Thread nD τ) none Set.univ (m := sM) (S := (sSlot c).view.set)
    (by rw [View.set_reshape, View.set_slice]; exact Finset.Subset.refl _)) $$ Hs; iintro Hs
  iapply (wp_store 𝒱₀ (d : Thread nD τ) none Set.univ (m := sM) (r := slotR c) (Mk := Finset.univ)
    (S := (sSlot c).view.set) (slot_subset c)) $$ Hs; iintro Hs
  iapply (wp_send_slot m K d c _ (tgt_eq d c) _ fd ((read_slot d c fs v).trans hv) l W) $$ [Hs Hd HO Hts Htr]
  · isplitr; · iexact HR
    isplitl [Hs]; · iexact Hs
    isplitl [Hd]; · iexact Hd
    isplitl [HO]; · iexact HO
    isplitl [Hts] <;> iassumption
  iintro ⟨Hc, HO⟩
  unfold RunsTo
  rw [wp_ret]; imodintro
  iapply HQ
  isplitl [Hc]; · iexact Hc
  iexists W; iexact HO

theorem recvSlot_spec (c : Fin 8) (l : List (Fin 8)) (hl : ∀ x ∈ l, lv (recvCell d c) () < if x.val < 4 then 2 else 3)
    (Q : Vec F S1x256x256 .bf16 → sProp 𝕄) :
    iprop(records m K ∗ cred (tallyAt (recvCell d c) () NS) ∗ atPos ER (recvCell d c) 0 ∅ 0 ∗ ow d (owe d l))
      ⊢ iprop((∀ r : Vec F S1x256x256 .bf16, (⌜shapeCast S256x256 r shapeCasts_S1x256x256_S256x256 = sent m (peer d c) c⌝
            ∗ rAny d c ∗ atPos ER (recvCell d c) (0 + 1) ∅ 0 ∗ ow d (owe d l)) -∗ Q r)
          -∗ RunsTo d (recvSlot c) Q) := by
  simp only [recvSlot, Prog.lift, Prog.bind_op, Prog.bind_ret]
  unfold ow
  iintro ⟨#HR, Hc, Ha, ⟨%W, HO⟩⟩ HQ
  iapply (Rounds.wp_wait_rest_token 𝒱₀ ER (Rd m) (d : Thread nD τ) none (κ := K (d, some (3, c)))
      (wpE_waitDma2_eq 𝒱₀ (d : Thread nD τ) none Set.univ) (Set.mem_univ _) () (O := owe d l) (W := W) (R := 0) (m := 0) (T := ∅)
      (by rw [Nat.zero_add, expect_dma, amount_recv, cr_r])) $$ [Hc HO Ha]
  · isplitr; · iapply (inv_at m K (d, some (3, c))); iexact HR
    isplitl [Hc]; · iexact Hc
    isplitl [HO]; · iexact HO
    isplitr
    · iapply (mayWait_owe d _ l hl); iapply (lev_at m K); iexact HR
    iexact Ha
  iintro ⟨HO, Ha, -, Hpay⟩
  ihave Hr := (Entails.of_eq ((rest_dma m _ _).trans (payload_recv m d c))) $$ Hpay
  unfold rGot owns
  icases Hr with ⟨%f, %hf, Hr⟩
  iapply (wp_load 𝒱₀ (d : Thread nD τ) none Set.univ (m := rM) (S := (rSlot c).view.set)
    (by rw [View.set_reshape, View.set_slice]; exact Finset.Subset.refl _)) $$ Hr; iintro Hr
  rw [wp_ret]; imodintro
  iapply HQ
  isplitr
  · ipureintro
    exact hf
  isplitl [Hr]; · unfold rAny; iexists f; iexact Hr
  isplitl [Ha]; · iexact Ha
  iexists _; iexact HO

theorem storeOut_spec (c : Fin 4) (w : FVec F S1x256x256 .f32) (f : (cc0_stg3_0 : Ref sig .tc).ty.Contents (Elt F))
    (Q : PUnit → sProp 𝕄) :
    (pts d cc0_stg3_0 f : sProp 𝕄)
      ⊢ iprop((pts d cc0_stg3_0 ((outM.access (outR c)).write (Elt F) f w Finset.univ) -∗ Q ⟨⟩)
          -∗ RunsTo d (storeOut c w) Q) := by
  simp only [storeOut, Prog.lift, Prog.bind_op, Prog.bind_ret]
  iintro Ho HQ
  iapply (wp_load 𝒱₀ (d : Thread nD τ) none Set.univ (m := outM) (Finset.subset_univ _)) $$ Ho; iintro Ho
  iapply (wp_store 𝒱₀ (d : Thread nD τ) none Set.univ (m := outM) (r := outR c) (Mk := Finset.univ)
    (Finset.subset_univ _)) $$ Ho; iintro Ho
  rw [wp_ret]; imodintro
  iapply HQ
  iexact Ho

theorem doneSlot_spec (c : Fin 8) (Q : PUnit → sProp 𝕄) :
    iprop(records m K ∗ cred (tallyAt (sendCell d c) () NS) ∗ atPos ER (sendCell d c) 0 ∅ 0 ∗ ow d 0)
      ⊢ iprop(((sAny d c ∗ atPos ER (sendCell d c) (0 + 1) ∅ 0 ∗ ow d 0) -∗ Q ⟨⟩)
          -∗ RunsTo d (doneSlot c) Q) := by
  simp only [doneSlot, Prog.lift]
  unfold ow
  iintro ⟨#HR, Hc, Ha, ⟨%W, HO⟩⟩ HQ
  iapply (Rounds.wp_wait_rest_token 𝒱₀ ER (Rd m) (d : Thread nD τ) none (κ := K (d, some (2, c)))
      (wpE_waitDma2_eq 𝒱₀ (d : Thread nD τ) none Set.univ) (Set.mem_univ _) () (O := 0) (W := W) (R := 0) (m := 0) (T := ∅)
      (by rw [Nat.zero_add, expect_dma, amount_send, cr_s])) $$ [Hc HO Ha]
  · isplitr; · iapply (inv_at m K (d, some (2, c))); iexact HR
    isplitl [Hc]; · iexact Hc
    isplitl [HO]; · iexact HO
    isplitr; · rw [MayWait_zero]; iempintro
    iexact Ha
  iintro ⟨HO, Ha, -, Hpay⟩
  ihave Hs := (Entails.of_eq ((rest_dma m _ _).trans (payload_send m d c))) $$ Hpay
  rw [wp_ret]; imodintro
  iapply HQ
  isplitl [Hs]; · iexact Hs
  isplitl [Ha]; · iexact Ha
  iexists _; iexact HO

theorem handshake_spec (Q : PUnit → sProp 𝕄) :
    iprop(records m K ∗ ow d (O₀ d) ∗ dutyTok ER (barCell (p1 d)) 0 false ∗ dutyTok ER (barCell (p2 d)) 0 true
        ∗ hand1 d ∗ hand2 d ∗ cred (tallyAt (barCell d) () 2) ∗ atPos ER (barCell d) 0 ∅ 0)
      ⊢ iprop(((hand1 (p1 d) ∗ hand2 (p2 d) ∗ atPos ER (barCell d) (0 + 1) ∅ 0 ∗ ow d (owe d order)) -∗ Q ⟨⟩)
          -∗ RunsTo d (handshake d) Q) := by
  simp only [handshake, semSignalWord, semWaitWord, Prog.lift, Prog.bind_op, Prog.bind_ret, dev1_eq d, dev2_eq d]
  unfold ow
  iintro ⟨#HR, ⟨%W, HO⟩, Ht1, Ht2, Hh1, Hh2, Hc, Ha⟩ HQ
  iapply (Rounds.wp_signal 𝒱₀ ER (Rd m) (d : Thread nD τ) none (dst := (p1 d : Thread nD τ)) (κ := K (p1 d, none))
      (d := false) (by rw [duties_bar]; exact Finset.mem_univ _) (show (1 : ℕ) = _ by decide) () (O₁ d) rfl)
    $$ [HO Ht1 Hh1]
  · isplitr; · iapply (inv_at m K (p1 d, none)); iexact HR
    isplitl [HO]; · iexact HO
    isplitl [Ht1]; · iexact Ht1
    isplitl [Hh1]
    · iapply (Entails.of_eq (show hand1 d = (Rd m).payload (barCell (p1 d)) 0 false from by
        show _ = hand1 (p1 (p1 d)); rw [p1_p1])); iexact Hh1
    iapply (reached_at m K (p1 d, none)); iexact HR
  iintro HO
  unfold O₁
  iapply (Rounds.wp_signal 𝒱₀ ER (Rd m) (d : Thread nD τ) none (dst := (p2 d : Thread nD τ)) (κ := K (p2 d, none))
      (d := true) (by rw [duties_bar]; exact Finset.mem_univ _) (show (1 : ℕ) = _ by decide) () (owe d order) rfl)
    $$ [HO Ht2 Hh2]
  · isplitr; · iapply (inv_at m K (p2 d, none)); iexact HR
    isplitl [HO]; · iexact HO
    isplitl [Ht2]; · iexact Ht2
    isplitl [Hh2]
    · iapply (Entails.of_eq (show hand2 d = (Rd m).payload (barCell (p2 d)) 0 true from by
        show _ = hand2 (p2 (p2 d)); rw [p2_p2])); iexact Hh2
    iapply (reached_at m K (p2 d, none)); iexact HR
  iintro HO
  iapply (Rounds.wp_wait_rest_token 𝒱₀ ER (Rd m) (d : Thread nD τ) none (κ := K (d, none))
      (wpE_semWait_eq 𝒱₀ (d : Thread nD τ) none Set.univ) (Set.mem_univ _) () (O := owe d order) (W := W) (R := 0) (m := 0) (T := ∅)
      (by rw [expect_bar]; decide)) $$ [Hc HO Ha]
  · isplitr; · iapply (inv_at m K (d, none)); iexact HR
    isplitl [Hc]; · iexact Hc
    isplitl [HO]; · iexact HO
    isplitr
    · iapply (mayWait_owe d _ order (fun c _ => by show 1 < _; split <;> decide)); iapply (lev_at m K); iexact HR
    iexact Ha
  iintro ⟨HO, Ha, -, Hpay⟩
  ihave Hp := (Entails.of_eq (rest_bar m d)) $$ Hpay
  icases Hp with ⟨Hh1, Hh2⟩
  rw [wp_ret]; imodintro
  iapply HQ
  isplitl [Hh1]; · iexact Hh1
  isplitl [Hh2]; · iexact Hh2
  isplitl [Ha]; · iexact Ha
  iexists _; iexact HO

theorem zero3 : (![0, 0, 0] : Fin 3 → Nat) = fun _ => 0 := funext fun a => by fin_cases a <;> rfl
theorem zero2 : (![0, 0] : Fin 2 → Nat) = fun _ => 0 := funext fun a => by fin_cases a <;> rfl

theorem readQ_spec (Q : FVec F S256x1024 .bf16 → sProp 𝕄) :
    iprop(pts d cc0_stg0_0 (xstg m d) ∗ pts d cc0_stg1_0 (wqstg m d))
      ⊢ iprop(((pts d cc0_stg0_0 (xstg m d) ∗ pts d cc0_stg1_0 (wqstg m d)) -∗ Q (qAt m d))
          -∗ RunsTo d readQ Q) := by
  simp only [readQ, Prog.lift, Prog.bind_op, Prog.bind_ret, Prog.pure_eq_ret]
  iintro ⟨Hx, Hw⟩ HQ
  iapply (wp_load 𝒱₀ (d : Thread nD τ) none Set.univ (m := xM) (Finset.subset_univ _)) $$ Hx; iintro Hx
  iapply (wp_load 𝒱₀ (d : Thread nD τ) none Set.univ (m := wqM) (Finset.subset_univ _)) $$ Hw; iintro Hw
  rw [wp_ret]; imodintro
  rw [show xM.view.readAt (Elt F) (Rect.unit (s := S1x256x1024) ![0, 0, 0] S1x256x1024.size
      inb_S1x256x1024_S1x256x1024_0_0_0).toLoadRect (xstg m d) = xstg m d from
      Memref.readAt_unit_zero (Elt F) cc0_stg0_0 zero3 _ _,
    show wqM.view.readAt (Elt F) (Rect.unit (s := S1024x1024) ![0, 0] S1024x1024.size
      inb_S1024x1024_S1024x1024_0_0).toLoadRect (wqstg m d) = wqstg m d from
      Memref.readAt_unit_zero (Elt F) cc0_stg1_0 zero2 _ _, show qOf (xstg m d) (wqstg m d) = qAt m d from rfl]
  iapply HQ
  isplitl [Hx] <;> iassumption

end Cert.KernelIdeal.Own
-- ==== Proof.Body.lean ====
/-
# 01_k — the body, from what a device starts with to what it leaves
-/
module

public import proofs.«01_k».proof.Proof.Steps

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 4 × Fin 8) → ℕ) (d : Dev nD)

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A device's cells, kind by kind. -/
theorem bigSep_cells (Φ : Option (Fin 4 × Fin 8) → sProp 𝕄) : bigSep Finset.univ Φ =
    iprop(Φ none ∗ (bigSep Finset.univ fun h => Φ (some (0, h))) ∗ (bigSep Finset.univ fun h => Φ (some (1, h)))
      ∗ (bigSep Finset.univ fun h => Φ (some (2, h))) ∗ (bigSep Finset.univ fun h => Φ (some (3, h)))) := by
  have e : (Finset.univ : Finset (Option (Fin 4 × Fin 8))).erase none
      = Finset.univ.map (⟨some, Option.some_injective _⟩ : (Fin 4 × Fin 8) ↪ Option (Fin 4 × Fin 8)) := by decide
  rw [bigSep_univ_at Φ none, e, bigSep_map, bigSep_univ_prod, bigSep_fin4]
  rfl

/-- The four stores over any contents. -/
def outWr (f : (cc0_stg3_0 : Ref sig .tc).ty.Contents (Elt F)) (c : Fin 4) : (cc0_stg3_0 : Ref sig .tc).ty.Contents (Elt F) :=
  (outM.access (outR c)).write (Elt F) f (shapeCast S1x256x256 (outQ m d c) shapeCasts_S256x256_S1x256x256) Finset.univ
def outAll (f : (cc0_stg3_0 : Ref sig .tc).ty.Contents (Elt F)) : (cc0_stg3_0 : Ref sig .tc).ty.Contents (Elt F) :=
  outWr m d (outWr m d (outWr m d (outWr m d f 0) 2) 1) 3
/-- The result. -/
def outAt : (cc0_stg3_0 : Ref sig .tc).ty.Contents (Elt F) := outAll m d fun _ => (Scalar.ofBits .f32 0x00000000#32 : F .f32)

theorem out_cover : Finset.univ.biUnion (fun c : Fin 4 => (outR c).set) = Finset.univ :=
  Ring.lead_cover (s := S1x256x1024) (NB := 4) 2 256 (fun c => ![0, 0, 256 * c.val]) S1x256x256.size inbOut
    (fun b => rfl) (fun b a h => by fin_cases a <;> first | rfl | exact absurd rfl h) rfl
    (fun a h => by fin_cases a <;> first | rfl | exact absurd rfl h) rfl

theorem outAll_eq (f : (cc0_stg3_0 : Ref sig .tc).ty.Contents (Elt F)) : outAll m d f = outAt m d := by
  funext i
  obtain ⟨c, -, hc⟩ := Finset.mem_biUnion.mp (out_cover ▸ Finset.mem_univ i : i ∈ Finset.univ.biUnion fun c : Fin 4 => (outR c).set)
  have hm : i ∈ (outM.access (outR c)).setOn Finset.univ := by
    show i ∈ ((View.whole cc0_stg3_0).slice (outR c)).set
    rw [View.set_slice_whole]; exact hc
  unfold outAt outAll outWr
  refine View.write_congr (fun _ _ _ => rfl) fun h3 => View.write_congr (fun _ _ _ => rfl) fun h1 =>
    View.write_congr (fun _ _ _ => rfl) fun h2 => View.write_congr (fun _ _ _ => rfl) fun h0 => ?_
  fin_cases c
  · exact absurd hm h0
  · exact absurd hm h1
  · exact absurd hm h2
  · exact absurd hm h3

/-! ## The parts in sequence -/

/-- One head before its copies are started, and after. -/
def headPre (q : PosShare TreeShare) (h : Fin 8) : sProp 𝕄 :=
  iprop(srcK m d h (Transfers.shareTok q 8 h) ∗ srcV m d h (Transfers.shareTok q 8 h) ∗ kAny d h ∗ vAny d h
    ∗ dutyTok ER (kvCell d 0 h) 0 false ∗ dutyTok ER (kvCell d 1 h) 0 false)
def headMid (h : Fin 8) : sProp 𝕄 :=
  iprop(cred (tallyAt (kvCell d 0 h) () NK) ∗ cred (tallyAt (kvCell d 1 h) () NK))
/-- A head's positions. -/
def headPos (r : ℕ) (h : Fin 8) : sProp 𝕄 := iprop(atPos ER (kvCell d 0 h) r ∅ 0 ∗ atPos ER (kvCell d 1 h) r ∅ 0)

theorem start_step (q : PosShare TreeShare) (h : Fin 8) (Q : PUnit → sProp 𝕄) :
    iprop(records m K ∗ headPre m d q h) ⊢ iprop((headMid d h -∗ Q ⟨⟩) -∗ RunsTo d (startHead d h) Q) :=
  startHead_spec m K d h _ _ Q

theorem startAll_spec (q : PosShare TreeShare) (Q : PUnit → sProp 𝕄) :
    iprop(records m K ∗ bigSep Finset.univ (headPre m d q))
      ⊢ iprop((bigSep Finset.univ (headMid d) -∗ Q ⟨⟩) -∗ RunsTo d (startAll d) Q) := by
  rw [bigSep_fin8, bigSep_fin8]
  unfold startAll RunsTo
  simp only [wp_bind]
  iintro ⟨#HR, H0, H1, H2, H3, H4, H5, H6, H7⟩ HQ
  iapply (start_step m K d q 0) $$ [H0]; · (isplitr; · iexact HR); iexact H0
  iintro H0
  iapply (start_step m K d q 1) $$ [H1]; · (isplitr; · iexact HR); iexact H1
  iintro H1
  iapply (start_step m K d q 2) $$ [H2]; · (isplitr; · iexact HR); iexact H2
  iintro H2
  iapply (start_step m K d q 3) $$ [H3]; · (isplitr; · iexact HR); iexact H3
  iintro H3
  iapply (start_step m K d q 4) $$ [H4]; · (isplitr; · iexact HR); iexact H4
  iintro H4
  iapply (start_step m K d q 5) $$ [H5]; · (isplitr; · iexact HR); iexact H5
  iintro H5
  iapply (start_step m K d q 6) $$ [H6]; · (isplitr; · iexact HR); iexact H6
  iintro H6
  iapply (start_step m K d q 7) $$ [H7]; · (isplitr; · iexact HR); iexact H7
  iintro H7
  iapply HQ
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- What every head's step keeps. -/
def runCtx : sProp 𝕄 := iprop(ow d (owe d order) ∗ pts d cc0_stg2_0 (wostg m d))
/-- A head before and after its step. -/
def runPre (h : Fin 8) : sProp 𝕄 := iprop(headMid d h ∗ headPos d 0 h)
def runPost (h : Fin 8) : sProp 𝕄 := iprop((kGot m d h ∗ vGot m d h) ∗ headPos d (0 + 1) h)

theorem run_step (h : Fin 8) (a : FVec F S256x1024 .f32) (Q : FVec F S256x1024 .f32 → sProp 𝕄) :
    iprop(records m K ∗ runPre d h ∗ runCtx m d)
      ⊢ iprop(((runPost m d h ∗ runCtx m d) -∗ Q (hv m d h a)) -∗ RunsTo d (runHead d (qAt m d) h a) Q) := by
  unfold runPre runPost runCtx headMid headPos
  iintro ⟨#HR, ⟨⟨H1, H2⟩, H3, H4⟩, H5, H6⟩ HQ
  iapply (runHead_spec m K d (qAt m d) h a order) $$ [H1 H2 H3 H4 H5 H6]
  · isplitr; · iexact HR
    isplitl [H1]; · iexact H1
    isplitl [H2]; · iexact H2
    isplitl [H3]; · iexact H3
    isplitl [H4]; · iexact H4
    isplitl [H5] <;> iassumption
  iintro ⟨H1, H2, H3, H4, H5, H6⟩
  iapply (show iprop((((kGot m d h ∗ vGot m d h) ∗ atPos ER (kvCell d 0 h) (0 + 1) ∅ 0 ∗ atPos ER (kvCell d 1 h) (0 + 1) ∅ 0)
    ∗ ow d (owe d order) ∗ pts d cc0_stg2_0 (wostg m d)) -∗ Q (hv m d h a)) ⊢ iprop((((kGot m d h ∗ vGot m d h) ∗ atPos ER (kvCell d 0 h) (0 + 1) ∅ 0 ∗ atPos ER (kvCell d 1 h) (0 + 1) ∅ 0)
    ∗ ow d (owe d order) ∗ pts d cc0_stg2_0 (wostg m d)) -∗ Q (headVal (qAt m d) h (kX m d h) (vX m d h) (woX m d h) a)) from .rfl) $$ HQ
  isplitl [H1 H2 H3 H4]
  · isplitl [H1 H2]
    · isplitl [H1] <;> iassumption
    isplitl [H3] <;> iassumption
  isplitl [H5] <;> iassumption

theorem runAll_spec (Q : FVec F S256x1024 .f32 → sProp 𝕄) :
    iprop(records m K ∗ bigSep Finset.univ (runPre d) ∗ runCtx m d)
      ⊢ iprop(((bigSep Finset.univ (runPost m d) ∗ runCtx m d) -∗ Q (accOf m d)) -∗ RunsTo d (runAll d (qAt m d)) Q) := by
  rw [bigSep_fin8, bigSep_fin8]
  unfold runAll RunsTo accOf
  simp only [wp_bind]
  iintro ⟨#HR, ⟨H0, H1, H2, H3, H4, H5, H6, H7⟩, HC⟩ HQ
  iapply (run_step m K d 0) $$ [H0 HC]; · (isplitr; · iexact HR); isplitl [H0] <;> iassumption
  iintro ⟨H0, HC⟩
  iapply (run_step m K d 1) $$ [H1 HC]; · (isplitr; · iexact HR); isplitl [H1] <;> iassumption
  iintro ⟨H1, HC⟩
  iapply (run_step m K d 2) $$ [H2 HC]; · (isplitr; · iexact HR); isplitl [H2] <;> iassumption
  iintro ⟨H2, HC⟩
  iapply (run_step m K d 3) $$ [H3 HC]; · (isplitr; · iexact HR); isplitl [H3] <;> iassumption
  iintro ⟨H3, HC⟩
  iapply (run_step m K d 4) $$ [H4 HC]; · (isplitr; · iexact HR); isplitl [H4] <;> iassumption
  iintro ⟨H4, HC⟩
  iapply (run_step m K d 5) $$ [H5 HC]; · (isplitr; · iexact HR); isplitl [H5] <;> iassumption
  iintro ⟨H5, HC⟩
  iapply (run_step m K d 6) $$ [H6 HC]; · (isplitr; · iexact HR); isplitl [H6] <;> iassumption
  iintro ⟨H6, HC⟩
  iapply (run_step m K d 7) $$ [H7 HC]; · (isplitr; · iexact HR); isplitl [H7] <;> iassumption
  iintro ⟨H7, HC⟩
  iapply HQ
  isplitr [HC]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact HC

/-- A slot's tokens. -/
def slotToks (c : Fin 8) : sProp 𝕄 :=
  iprop(dutyTok ER (sendCell d c) 0 false ∗ dutyTok ER (recvCell (peer d c) c) 0 false)
/-- What sending a slot needs. -/
def slotPre (c : Fin 8) : sProp 𝕄 := iprop(sAny d c ∗ rAny (peer d c) c ∗ slotToks d c)

theorem send_step (c : Fin 8) (v : FVec F S256x256 .f32) (hv : rnd v = sent m d c) (l : List (Fin 8))
    (Q : PUnit → sProp 𝕄) :
    iprop(records m K ∗ slotPre d c ∗ ow d (owe d (c :: l)))
      ⊢ iprop(((cred (tallyAt (sendCell d c) () NS) ∗ ow d (owe d l)) -∗ Q ⟨⟩)
          -∗ RunsTo d (sendSlot d c (pack v)) Q) := by
  unfold slotPre slotToks
  iintro ⟨#HR, ⟨H1, H2, H3, H4⟩, H5⟩ HQ
  iapply (sendSlot_spec m K d c v hv l) $$ [H1 H2 H3 H4 H5]
  · isplitr; · iexact HR
    isplitl [H1]; · iexact H1
    isplitl [H2]; · iexact H2
    isplitl [H5]; · iexact H5
    isplitl [H3] <;> iassumption
  iexact HQ

theorem sendAll_spec (l : List (Fin 8)) (Q : PUnit → sProp 𝕄) :
    iprop(records m K ∗ slotPre d 0 ∗ slotPre d 1 ∗ slotPre d 2 ∗ slotPre d 3 ∗ ow d (owe d (0 :: 1 :: 2 :: 3 :: l)))
      ⊢ iprop(((cred (tallyAt (sendCell d 0) () NS) ∗ cred (tallyAt (sendCell d 1) () NS)
            ∗ cred (tallyAt (sendCell d 2) () NS) ∗ cred (tallyAt (sendCell d 3) () NS) ∗ ow d (owe d l)) -∗ Q ⟨⟩)
          -∗ RunsTo d (sendAll d (accOf m d)) Q) := by
  unfold sendAll RunsTo
  simp only [wp_bind]
  iintro ⟨#HR, H0, H1, H2, H3, HO⟩ HQ
  iapply (send_step m K d 0 _ rfl _) $$ [H0 HO]; · (isplitr; · iexact HR); isplitl [H0] <;> iassumption
  iintro ⟨H0, HO⟩
  iapply (send_step m K d 1 _ rfl _) $$ [H1 HO]; · (isplitr; · iexact HR); isplitl [H1] <;> iassumption
  iintro ⟨H1, HO⟩
  iapply (send_step m K d 2 _ rfl _) $$ [H2 HO]; · (isplitr; · iexact HR); isplitl [H2] <;> iassumption
  iintro ⟨H2, HO⟩
  iapply (send_step m K d 3 _ rfl _) $$ [H3 HO]; · (isplitr; · iexact HR); isplitl [H3] <;> iassumption
  iintro ⟨H3, HO⟩
  iapply HQ
  isplitl [H0]; · iexact H0
  isplitl [H1]; · iexact H1
  isplitl [H2]; · iexact H2
  isplitl [H3]; · iexact H3
  iexact HO

theorem sent_lo (e : Dev nD) (c : Fin 4) : sent m e (lo c) = rnd (quarter (accOf m e) c) := by
  match c with | 0 => rfl | 1 => rfl | 2 => rfl | 3 => rfl
theorem sent_hi (e : Dev nD) (c : Fin 4) : sent m e (hi c) = rnd (acc1 m e c) := by
  match c with | 0 => rfl | 1 => rfl | 2 => rfl | 3 => rfl

/-- An arrival before and after it is waited for. -/
def recvPre (c : Fin 8) : sProp 𝕄 := iprop(cred (tallyAt (recvCell d c) () NS) ∗ atPos ER (recvCell d c) 0 ∅ 0)
def recvPost (c : Fin 8) : sProp 𝕄 := iprop(rAny d c ∗ atPos ER (recvCell d c) (0 + 1) ∅ 0)

theorem recv_step (c : Fin 8) (l : List (Fin 8)) (hl : ∀ x ∈ l, lv (recvCell d c) () < if x.val < 4 then 2 else 3)
    (Q : Vec F S1x256x256 .bf16 → sProp 𝕄) :
    iprop(records m K ∗ recvPre d c ∗ ow d (owe d l))
      ⊢ iprop((∀ r : Vec F S1x256x256 .bf16, (⌜shapeCast S256x256 r shapeCasts_S1x256x256_S256x256 = sent m (peer d c) c⌝
            ∗ recvPost d c ∗ ow d (owe d l)) -∗ Q r)
          -∗ RunsTo d (recvSlot c) Q) := by
  unfold recvPre recvPost
  iintro ⟨#HR, ⟨H1, H2⟩, HO⟩ HQ
  iapply (recvSlot_spec m K d c l hl) $$ [H1 H2 HO]
  · isplitr; · iexact HR
    isplitl [H1]; · iexact H1
    isplitl [H2] <;> iassumption
  iintro %r ⟨%hr, H1, H2, HO⟩
  iapply HQ
  isplitr; · ipureintro; exact hr
  isplitr [HO]
  · isplitl [H1] <;> iassumption
  iexact HO

theorem pass_spec (c : Fin 4) (c1 c2 : Fin 8) (h1 : c1 = lo c) (h2 : c2 = hi c) (l : List (Fin 8))
    (hl : ∀ x ∈ c2 :: l, 4 ≤ x.val) (Q : Vec F S1x256x256 .bf16 → sProp 𝕄) :
    iprop(records m K ∗ recvPre d c1 ∗ slotPre d c2 ∗ ow d (owe d (c2 :: l)))
      ⊢ iprop((∀ r : Vec F S1x256x256 .bf16, (⌜plus (quarter (accOf m d) c) r = acc1 m d c⌝
            ∗ recvPost d c1 ∗ cred (tallyAt (sendCell d c2) () NS) ∗ ow d (owe d l)) -∗ Q r)
          -∗ RunsTo d (pass d c1 c2 (quarter (accOf m d) c)) Q) := by
  unfold pass RunsTo
  simp only [wp_bind, Prog.pure_eq_ret]
  iintro ⟨#HR, H1, H2, HO⟩ HQ
  iapply (recv_step m K d c1 (c2 :: l) (fun x hx => by
    have hx4 := hl x hx
    rw [lv_recv, if_neg (by omega : ¬ x.val < 4), h1]
    match c with | 0 => decide | 1 => decide | 2 => decide | 3 => decide)) $$ [H1 HO]
  · isplitr; · iexact HR
    isplitl [H1] <;> iassumption
  iintro %r ⟨%hr, H1, HO⟩
  have e : plus (quarter (accOf m d) c) r = acc1 m d c := by
    unfold plus acc1
    rw [hr, h1, sent_lo]
  rw [e]
  iapply (send_step m K d c2 _ (by rw [h2, sent_hi]) l) $$ [H2 HO]
  · isplitr; · iexact HR
    isplitl [H2] <;> iassumption
  iintro ⟨H2, HO⟩
  rw [wp_ret]; imodintro
  iapply HQ
  isplitr; · ipureintro; exact e
  isplitl [H1]; · iexact H1
  isplitl [H2] <;> iassumption

theorem finish_spec (c : Fin 4) (c2 : Fin 8) (h2 : c2 = hi c) (a : FVec F S256x256 .f32) (ha : a = acc1 m d c)
    (f : (cc0_stg3_0 : Ref sig .tc).ty.Contents (Elt F)) (Q : PUnit → sProp 𝕄) :
    iprop(records m K ∗ recvPre d c2 ∗ ow d (owe d []) ∗ pts d cc0_stg3_0 f)
      ⊢ iprop(((recvPost d c2 ∗ ow d (owe d []) ∗ pts d cc0_stg3_0 (outWr m d f c)) -∗ Q ⟨⟩)
          -∗ RunsTo d (finish c2 c a) Q) := by
  unfold finish RunsTo
  simp only [wp_bind]
  iintro ⟨#HR, H1, HO, Hf⟩ HQ
  iapply (recv_step m K d c2 [] (fun x hx => absurd hx List.not_mem_nil)) $$ [H1 HO]
  · isplitr; · iexact HR
    isplitl [H1] <;> iassumption
  iintro %r ⟨%hr, H1, HO⟩
  rw [show outPay a r = shapeCast S1x256x256 (outQ m d c) shapeCasts_S256x256_S1x256x256 from by
    unfold outPay plus outQ
    rw [hr, ha, h2, sent_hi]]
  iapply (storeOut_spec d c _ f) $$ Hf
  iintro Hf
  iapply HQ
  isplitl [H1]; · iexact H1
  isplitl [HO]; · iexact HO
  iexact Hf

/-- A departure before and after it is waited for. -/
def donePre (c : Fin 8) : sProp 𝕄 := iprop(cred (tallyAt (sendCell d c) () NS) ∗ atPos ER (sendCell d c) 0 ∅ 0)
def donePost (c : Fin 8) : sProp 𝕄 := iprop(sAny d c ∗ atPos ER (sendCell d c) (0 + 1) ∅ 0)

theorem done_step (c : Fin 8) (Q : PUnit → sProp 𝕄) :
    iprop(records m K ∗ donePre d c ∗ ow d 0)
      ⊢ iprop(((donePost d c ∗ ow d 0) -∗ Q ⟨⟩) -∗ RunsTo d (doneSlot c) Q) := by
  unfold donePre donePost
  iintro ⟨#HR, ⟨H1, H2⟩, HO⟩ HQ
  iapply (doneSlot_spec m K d c) $$ [H1 H2 HO]
  · isplitr; · iexact HR
    isplitl [H1]; · iexact H1
    isplitl [H2] <;> iassumption
  iintro ⟨H1, H2, HO⟩
  iapply HQ
  isplitr [HO]
  · isplitl [H1] <;> iassumption
  iexact HO

theorem doneAll_spec (Q : PUnit → sProp 𝕄) :
    iprop(records m K ∗ bigSep Finset.univ (donePre d) ∗ ow d 0)
      ⊢ iprop(((bigSep Finset.univ (donePost d) ∗ ow d 0) -∗ Q ⟨⟩) -∗ RunsTo d doneAll Q) := by
  rw [bigSep_fin8, bigSep_fin8]
  unfold doneAll RunsTo
  simp only [wp_bind]
  iintro ⟨#HR, ⟨H0, H1, H2, H3, H4, H5, H6, H7⟩, HC⟩ HQ
  iapply (done_step m K d 0) $$ [H0 HC]; · (isplitr; · iexact HR); isplitl [H0] <;> iassumption
  iintro ⟨H0, HC⟩
  iapply (done_step m K d 1) $$ [H1 HC]; · (isplitr; · iexact HR); isplitl [H1] <;> iassumption
  iintro ⟨H1, HC⟩
  iapply (done_step m K d 2) $$ [H2 HC]; · (isplitr; · iexact HR); isplitl [H2] <;> iassumption
  iintro ⟨H2, HC⟩
  iapply (done_step m K d 3) $$ [H3 HC]; · (isplitr; · iexact HR); isplitl [H3] <;> iassumption
  iintro ⟨H3, HC⟩
  iapply (done_step m K d 4) $$ [H4 HC]; · (isplitr; · iexact HR); isplitl [H4] <;> iassumption
  iintro ⟨H4, HC⟩
  iapply (done_step m K d 5) $$ [H5 HC]; · (isplitr; · iexact HR); isplitl [H5] <;> iassumption
  iintro ⟨H5, HC⟩
  iapply (done_step m K d 6) $$ [H6 HC]; · (isplitr; · iexact HR); isplitl [H6] <;> iassumption
  iintro ⟨H6, HC⟩
  iapply (done_step m K d 7) $$ [H7 HC]; · (isplitr; · iexact HR); isplitl [H7] <;> iassumption
  iintro ⟨H7, HC⟩
  iapply HQ
  isplitr [HC]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact HC

end Cert.KernelIdeal.Own
-- ==== Proof.Whole.lean ====
/-
# 01_k — the whole body
-/
module

public import proofs.«01_k».proof.Proof.Body

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 4 × Fin 8) → ℕ) (d : Dev nD)

theorem hands_out : (bigSep Finset.univ (rAny d) : sProp 𝕄) ⊢ iprop(hand1 d ∗ hand2 d) := by
  rw [bigSep_fin8]
  unfold hand1 hand2
  iintro ⟨H0, H1, H2, H3, H4, H5, H6, H7⟩
  isplitl [H0 H1 H6 H7]
  · isplitl [H0]; · iexact H0
    isplitl [H1]; · iexact H1
    isplitl [H6] <;> iassumption
  isplitl [H2]; · iexact H2
  isplitl [H3]; · iexact H3
  isplitl [H4] <;> iassumption

theorem hands_in : (iprop(hand1 (p1 d) ∗ hand2 (p2 d)) : sProp 𝕄) ⊢ bigSep Finset.univ fun c => rAny (peer d c) c := by
  rw [bigSep_fin8]
  unfold hand1 hand2
  iintro ⟨⟨H0, H1, H6, H7⟩, H2, H3, H4, H5⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem slots_in : (iprop((bigSep Finset.univ (sAny d)) ∗ (bigSep Finset.univ fun c => rAny (peer d c) c)
    ∗ bigSep Finset.univ (slotToks d)) : sProp 𝕄) ⊢ bigSep Finset.univ (slotPre d) := by
  rw [← bigSep_sep', ← bigSep_sep']
  exact bigSep_mono fun c _ => by unfold slotPre; exact BI.Entails.refl _

theorem runs_in : (iprop((bigSep Finset.univ (headMid d)) ∗ bigSep Finset.univ (headPos d 0)) : sProp 𝕄)
    ⊢ bigSep Finset.univ (runPre d) := by
  rw [← bigSep_sep']
  exact bigSep_mono fun c _ => by unfold runPre; exact BI.Entails.refl _

theorem dones_in : (iprop((bigSep Finset.univ fun c => cred (tallyAt (sendCell d c) () NS))
    ∗ bigSep Finset.univ fun c => atPos ER (sendCell d c) 0 ∅ 0) : sProp 𝕄) ⊢ bigSep Finset.univ (donePre d) := by
  rw [← bigSep_sep']
  exact bigSep_mono fun c _ => by unfold donePre; exact BI.Entails.refl _

/-- What the staged inputs hold. -/
def staged : sProp 𝕄 :=
  iprop(pts d cc0_stg0_0 (xstg m d) ∗ pts d cc0_stg1_0 (wqstg m d) ∗ pts d cc0_stg2_0 (wostg m d))

def bodyPre (q : PosShare TreeShare) : sProp 𝕄 :=
  iprop(bigSep Finset.univ (headPre m d q) ∗ bigSep Finset.univ (headPos d 0)
    ∗ (dutyTok ER (barCell (p1 d)) 0 false ∗ dutyTok ER (barCell (p2 d)) 0 true
      ∗ cred (tallyAt (barCell d) () 2) ∗ atPos ER (barCell d) 0 ∅ 0)
    ∗ bigSep Finset.univ (rAny d) ∗ bigSep Finset.univ (sAny d) ∗ bigSep Finset.univ (slotToks d)
    ∗ bigSep Finset.univ (recvPre d) ∗ bigSep Finset.univ fun c => atPos ER (sendCell d c) 0 ∅ 0)

def bodyPost : sProp 𝕄 :=
  iprop(bigSep Finset.univ (runPost m d) ∗ atPos ER (barCell d) (0 + 1) ∅ 0
    ∗ bigSep Finset.univ (recvPost d) ∗ bigSep Finset.univ (donePost d))

theorem body_spec (q : PosShare TreeShare) (f : (cc0_stg3_0 : Ref sig .tc).ty.Contents (Elt F)) (Q : PUnit → sProp 𝕄) :
    iprop(records m K ∗ bodyPre m d q ∗ ow d (O₀ d) ∗ staged m d ∗ pts d cc0_stg3_0 f)
      ⊢ iprop(((bodyPost m d ∗ ow d 0 ∗ staged m d ∗ pts d cc0_stg3_0 (outAt m d)) -∗ Q ⟨⟩) -∗ RunsTo d body Q) := by
  unfold body RunsTo bodyPre staged
  simp only [Prog.lift, Prog.bind_op, Prog.bind_ret, wp_deviceId, wp_bind]
  iintro ⟨#HR, ⟨Hh, Hhp, ⟨Hb1, Hb2, Hbc, Hba⟩, Hr, Hs, Ht, Hv, Hsp⟩, HO, ⟨Hx, Hwq, Hwo⟩, Hf⟩ HQ
  iapply (startAll_spec m K d q) $$ [Hh]
  · isplitr; · iexact HR
    iexact Hh
  iintro Hm
  iapply (readQ_spec m d) $$ [Hx Hwq]
  · isplitl [Hx] <;> iassumption
  iintro ⟨Hx, Hwq⟩
  ihave Hr' := (hands_out d) $$ Hr
  icases Hr' with ⟨Hh1, Hh2⟩
  iapply (handshake_spec m K d) $$ [HO Hb1 Hb2 Hh1 Hh2 Hbc Hba]
  · isplitr; · iexact HR
    isplitl [HO]; · iexact HO
    isplitl [Hb1]; · iexact Hb1
    isplitl [Hb2]; · iexact Hb2
    isplitl [Hh1]; · iexact Hh1
    isplitl [Hh2]; · iexact Hh2
    isplitl [Hbc] <;> iassumption
  iintro ⟨Hh1, Hh2, Hba, HO⟩
  ihave Hr := (hands_in d) $$ [Hh1 Hh2]
  · isplitl [Hh1] <;> iassumption
  ihave Hslots := (slots_in d) $$ [Hr Hs Ht]
  · isplitl [Hs]; · iexact Hs
    isplitl [Hr] <;> iassumption
  ihave Hruns := (runs_in d) $$ [Hm Hhp]
  · isplitl [Hm] <;> iassumption
  iapply (runAll_spec m K d) $$ [Hruns HO Hwo]
  · isplitr; · iexact HR
    isplitl [Hruns]; · iexact Hruns
    unfold runCtx
    isplitl [HO] <;> iassumption
  unfold runCtx
  iintro ⟨Hruns, HO, Hwo⟩
  ihave Hsl := (Entails.of_eq (bigSep_fin8 (slotPre d))) $$ Hslots
  icases Hsl with ⟨S0, S1, S2, S3, S4, S5, S6, S7⟩
  ihave Hrv := (Entails.of_eq (bigSep_fin8 (recvPre d))) $$ Hv
  icases Hrv with ⟨R0, R1, R2, R3, R4, R5, R6, R7⟩
  iapply (sendAll_spec m K d [4, 6, 5, 7]) $$ [S0 S1 S2 S3 HO]
  · isplitr; · iexact HR
    isplitl [S0]; · iexact S0
    isplitl [S1]; · iexact S1
    isplitl [S2]; · iexact S2
    isplitl [S3]; · iexact S3
    iexact HO
  iintro ⟨S0, S1, S2, S3, HO⟩
  iapply (pass_spec m K d 0 0 4 rfl rfl [6, 5, 7] (by decide)) $$ [R0 S4 HO]
  · isplitr; · iexact HR
    isplitl [R0]; · iexact R0
    isplitl [S4] <;> iassumption
  iintro %r0 ⟨%e0, R0, S4, HO⟩
  iapply (pass_spec m K d 2 2 6 rfl rfl [5, 7] (by decide)) $$ [R2 S6 HO]
  · isplitr; · iexact HR
    isplitl [R2]; · iexact R2
    isplitl [S6] <;> iassumption
  iintro %r2 ⟨%e2, R2, S6, HO⟩
  iapply (pass_spec m K d 1 1 5 rfl rfl [7] (by decide)) $$ [R1 S5 HO]
  · isplitr; · iexact HR
    isplitl [R1]; · iexact R1
    isplitl [S5] <;> iassumption
  iintro %r1 ⟨%e1, R1, S5, HO⟩
  iapply (pass_spec m K d 3 3 7 rfl rfl [] (by decide)) $$ [R3 S7 HO]
  · isplitr; · iexact HR
    isplitl [R3]; · iexact R3
    isplitl [S7] <;> iassumption
  iintro %r3 ⟨%e3, R3, S7, HO⟩
  iapply (finish_spec m K d 0 4 rfl _ e0 f) $$ [R4 HO Hf]
  · isplitr; · iexact HR
    isplitl [R4]; · iexact R4
    isplitl [HO] <;> iassumption
  iintro ⟨R4, HO, Hf⟩
  iapply (finish_spec m K d 2 6 rfl _ e2 _) $$ [R6 HO Hf]
  · isplitr; · iexact HR
    isplitl [R6]; · iexact R6
    isplitl [HO] <;> iassumption
  iintro ⟨R6, HO, Hf⟩
  iapply (finish_spec m K d 1 5 rfl _ e1 _) $$ [R5 HO Hf]
  · isplitr; · iexact HR
    isplitl [R5]; · iexact R5
    isplitl [HO] <;> iassumption
  iintro ⟨R5, HO, Hf⟩
  iapply (finish_spec m K d 3 7 rfl _ e3 _) $$ [R7 HO Hf]
  · isplitr; · iexact HR
    isplitl [R7]; · iexact R7
    isplitl [HO] <;> iassumption
  iintro ⟨R7, HO, Hf⟩
  ihave Hd := (dones_in d) $$ [S0 S1 S2 S3 S4 S5 S6 S7 Hsp]
  · isplitr [Hsp]
    · rw [bigSep_fin8]
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hsp
  iapply (doneAll_spec m K d) $$ [Hd HO]
  · isplitr; · iexact HR
    isplitl [Hd]; · iexact Hd
    iexact HO
  iintro ⟨Hd, HO⟩
  iapply HQ
  unfold bodyPost
  isplitl [Hruns Hba R0 R1 R2 R3 R4 R5 R6 R7 Hd]
  · isplitl [Hruns]; · iexact Hruns
    isplitl [Hba]; · iexact Hba
    isplitr [Hd]
    · rw [bigSep_fin8]
      isplitl [R0]; · iexact R0
      isplitl [R1]; · iexact R1
      isplitl [R2]; · iexact R2
      isplitl [R3]; · iexact R3
      isplitl [R4]; · iexact R4
      isplitl [R5]; · iexact R5
      isplitl [R6]; · iexact R6
      iexact R7
    iexact Hd
  isplitl [HO]; · iexact HO
  isplitl [Hx Hwq Hwo]
  · isplitl [Hx]; · iexact Hx
    isplitl [Hwq] <;> iassumption
  iapply (Entails.of_eq (congrArg (pts d cc0_stg3_0) (show outAll m d f = outAt m d from outAll_eq m d f)))
  iexact Hf

end Cert.KernelIdeal.Own
-- ==== Proof.Entry.lean ====
/-
# 01_k — the buffers cut and joined around the body

At entry the four scratch buffers are cut into heads and slots and the two arrays left in HBM lend each head a share
of its rows; at exit the heads and slots join back.
-/
module

public import proofs.«01_k».proof.Proof.Whole

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 4 × Fin 8) → ℕ) (d : Dev nD)

/-! ## Heads and slots are disjoint and cover their buffers -/

theorem head_disjoint (b b' : Fin 8) (h : b ≠ b') : Disjoint (headR b).set (headR b').set :=
  Ring.lead_disjoint (s := S8x4096x128) (NB := 8) 0 1 (fun c => ![c.val, 0, 0]) S1x4096x128.size inbHead
    (fun b => (Nat.one_mul _).symm) rfl b b' h
theorem head_cover : Finset.univ.biUnion (fun c : Fin 8 => (headR c).set) = Finset.univ :=
  Ring.lead_cover (s := S8x4096x128) (NB := 8) 0 1 (fun c => ![c.val, 0, 0]) S1x4096x128.size inbHead
    (fun b => (Nat.one_mul _).symm) (fun b a h => by fin_cases a <;> first | rfl | exact absurd rfl h) rfl
    (fun a h => by fin_cases a <;> first | rfl | exact absurd rfl h) rfl
theorem slot_disjoint (b b' : Fin 8) (h : b ≠ b') : Disjoint (slotR b).set (slotR b').set :=
  Ring.lead_disjoint (s := S8x256x256) (NB := 8) 0 1 (fun c => ![c.val, 0, 0]) S1x256x256.size inbSlot
    (fun b => (Nat.one_mul _).symm) rfl b b' h
theorem slot_cover : Finset.univ.biUnion (fun c : Fin 8 => (slotR c).set) = Finset.univ :=
  Ring.lead_cover (s := S8x256x256) (NB := 8) 0 1 (fun c => ![c.val, 0, 0]) S1x256x256.size inbSlot
    (fun b => (Nat.one_mul _).symm) (fun b a h => by fin_cases a <;> first | rfl | exact absurd rfl h) rfl
    (fun a h => by fin_cases a <;> first | rfl | exact absurd rfl h) rfl

theorem kDst_set (h : Fin 8) : (kDst h).view.set = (headR h).set :=
  (View.set_reshape _ _).trans (View.set_slice_whole cc0_scratch0 (headR h))
theorem vDst_set (h : Fin 8) : (vDst h).view.set = (headR h).set :=
  (View.set_reshape _ _).trans (View.set_slice_whole cc0_scratch1 (headR h))
theorem sSlot_set (c : Fin 8) : (sSlot c).view.set = (slotR c).set :=
  (View.set_reshape _ _).trans (View.set_slice_whole cc0_scratch2 (slotR c))
theorem rSlot_set (c : Fin 8) : (rSlot c).view.set = (slotR c).set :=
  (View.set_reshape _ _).trans (View.set_slice_whole cc0_scratch3 (slotR c))

/-- A whole scratch buffer at some contents. -/
abbrev scr (b : Ref sig .tc) : sProp 𝕄 :=
  iprop(∃ f : Buf (Elt F) ((d : Thread nD τ).loc b), ((d : Thread nD τ).loc b) ↦{fullShare} f)

theorem k_cut : (scr d cc0_scratch0 : sProp 𝕄) ⊢ bigSep Finset.univ (kAny d) := by
  iintro ⟨%f, H⟩
  ihave H := (Entails.of_eq (Ring.pointsTo_blocks (fun c : Fin 8 => (headR c).set) head_disjoint head_cover f)) $$ H
  iapply (show (bigSep Finset.univ fun c : Fin 8 => (((d : Thread nD τ).loc cc0_scratch0) ↦[(headR c).set]{fullShare} f : sProp 𝕄)) ⊢ _ from
    bigSep_mono fun c _ => by unfold kAny; rw [kDst_set]; refine (show (_ : sProp 𝕄) ⊢ _ from ?_); iintro H; iexists f; iexact H)
  iexact H
theorem v_cut : (scr d cc0_scratch1 : sProp 𝕄) ⊢ bigSep Finset.univ (vAny d) := by
  iintro ⟨%f, H⟩
  ihave H := (Entails.of_eq (Ring.pointsTo_blocks (fun c : Fin 8 => (headR c).set) head_disjoint head_cover f)) $$ H
  iapply (show (bigSep Finset.univ fun c : Fin 8 => (((d : Thread nD τ).loc cc0_scratch1) ↦[(headR c).set]{fullShare} f : sProp 𝕄)) ⊢ _ from
    bigSep_mono fun c _ => by unfold vAny; rw [vDst_set]; refine (show (_ : sProp 𝕄) ⊢ _ from ?_); iintro H; iexists f; iexact H)
  iexact H
theorem s_cut : (scr d cc0_scratch2 : sProp 𝕄) ⊢ bigSep Finset.univ (sAny d) := by
  iintro ⟨%f, H⟩
  ihave H := (Entails.of_eq (Ring.pointsTo_blocks (fun c : Fin 8 => (slotR c).set) slot_disjoint slot_cover f)) $$ H
  iapply (show (bigSep Finset.univ fun c : Fin 8 => (((d : Thread nD τ).loc cc0_scratch2) ↦[(slotR c).set]{fullShare} f : sProp 𝕄)) ⊢ _ from
    bigSep_mono fun c _ => by unfold sAny; rw [sSlot_set]; refine (show (_ : sProp 𝕄) ⊢ _ from ?_); iintro H; iexists f; iexact H)
  iexact H
theorem r_cut : (scr d cc0_scratch3 : sProp 𝕄) ⊢ bigSep Finset.univ (rAny d) := by
  iintro ⟨%f, H⟩
  ihave H := (Entails.of_eq (Ring.pointsTo_blocks (fun c : Fin 8 => (slotR c).set) slot_disjoint slot_cover f)) $$ H
  iapply (show (bigSep Finset.univ fun c : Fin 8 => (((d : Thread nD τ).loc cc0_scratch3) ↦[(slotR c).set]{fullShare} f : sProp 𝕄)) ⊢ _ from
    bigSep_mono fun c _ => by unfold rAny; rw [rSlot_set]; refine (show (_ : sProp 𝕄) ⊢ _ from ?_); iintro H; iexists f; iexact H)
  iexact H

theorem k_join : (bigSep Finset.univ (kAny d) : sProp 𝕄) ⊢ scr d cc0_scratch0 := by
  refine .trans (bigSep_mono fun c _ => ?_) (Ring.pointsTo_blocks_join_exists (fun c : Fin 8 => (headR c).set) head_disjoint head_cover
    (fun _ => (Scalar.ofBits .f32 0x00000000#32 : F .f32)))
  unfold kAny; rw [kDst_set]; exact BI.Entails.refl _
theorem v_join : (bigSep Finset.univ (vAny d) : sProp 𝕄) ⊢ scr d cc0_scratch1 := by
  refine .trans (bigSep_mono fun c _ => ?_) (Ring.pointsTo_blocks_join_exists (fun c : Fin 8 => (headR c).set) head_disjoint head_cover
    (fun _ => (Scalar.ofBits .f32 0x00000000#32 : F .f32)))
  unfold vAny; rw [vDst_set]; exact BI.Entails.refl _
theorem s_join : (bigSep Finset.univ (sAny d) : sProp 𝕄) ⊢ scr d cc0_scratch2 := by
  refine .trans (bigSep_mono fun c _ => ?_) (Ring.pointsTo_blocks_join_exists (fun c : Fin 8 => (slotR c).set) slot_disjoint slot_cover
    (fun _ => (Scalar.ofBits .bf16 0x0000#16 : F .bf16)))
  unfold sAny; rw [sSlot_set]; exact BI.Entails.refl _
theorem r_join : (bigSep Finset.univ (rAny d) : sProp 𝕄) ⊢ scr d cc0_scratch3 := by
  refine .trans (bigSep_mono fun c _ => ?_) (Ring.pointsTo_blocks_join_exists (fun c : Fin 8 => (slotR c).set) slot_disjoint slot_cover
    (fun _ => (Scalar.ofBits .bf16 0x0000#16 : F .bf16)))
  unfold rAny; rw [rSlot_set]; exact BI.Entails.refl _

theorem kGot_any (h : Fin 8) : kGot m d h ⊢ (kAny d h : sProp 𝕄) := by
  unfold kGot owns kAny; iintro ⟨%f, -, H⟩; iexists f; iexact H
theorem vGot_any (h : Fin 8) : vGot m d h ⊢ (vAny d h : sProp 𝕄) := by
  unfold vGot owns vAny; iintro ⟨%f, -, H⟩; iexists f; iexact H

/-! ## The shares lent from HBM -/

/-- What stays of the two arrays left in HBM while the heads are lent their shares. -/
def kept : sProp 𝕄 :=
  iprop((((d : Thread nD τ).loc main_arg2) ↦{Transfers.shareDrop fullShare 8} (m ((d : Thread nD τ).loc main_arg2)))
    ∗ (((d : Thread nD τ).loc main_arg3) ↦{Transfers.shareDrop fullShare 8} (m ((d : Thread nD τ).loc main_arg3))))
/-- What one head is lent. -/
def lent (h : Fin 8) : sProp 𝕄 :=
  iprop(srcK m d h (Transfers.shareTok fullShare 8 h) ∗ srcV m d h (Transfers.shareTok fullShare 8 h))

theorem lend : (iprop((((d : Thread nD τ).loc main_arg2) ↦{fullShare} (m ((d : Thread nD τ).loc main_arg2)))
      ∗ (((d : Thread nD τ).loc main_arg3) ↦{fullShare} (m ((d : Thread nD τ).loc main_arg3)))) : sProp 𝕄)
    ⊢ iprop(kept m d ∗ bigSep Finset.univ (lent m d)) := by
  iintro ⟨H2, H3⟩
  ihave H2 := (Transfers.pointsTo_toks_split fullShare 8) $$ H2
  ihave H3 := (Transfers.pointsTo_toks_split fullShare 8) $$ H3
  icases H2 with ⟨D2, T2⟩
  icases H3 with ⟨D3, T3⟩
  unfold kept
  isplitl [D2 D3]
  · isplitl [D2] <;> iassumption
  iapply (show (iprop((bigSep Finset.univ fun h : Fin 8 => (((d : Thread nD τ).loc main_arg2)
        ↦{Transfers.shareTok fullShare 8 h} (m ((d : Thread nD τ).loc main_arg2))))
      ∗ (bigSep Finset.univ fun h : Fin 8 => (((d : Thread nD τ).loc main_arg3)
        ↦{Transfers.shareTok fullShare 8 h} (m ((d : Thread nD τ).loc main_arg3))))) : sProp 𝕄) ⊢ bigSep Finset.univ (lent m d) from by
    rw [← bigSep_sep']
    refine bigSep_mono fun h _ => ?_
    unfold lent srcK srcV
    refine (show (_ : sProp 𝕄) ⊢ _ from ?_)
    iintro ⟨H2, H3⟩
    ihave H2 := (pointsTo_split_subset (Finset.subset_univ (kSrc d h).view.set)) $$ H2
    ihave H3 := (pointsTo_split_subset (Finset.subset_univ (vSrc d h).view.set)) $$ H3
    icases H2 with ⟨H2, -⟩
    icases H3 with ⟨H3, -⟩
    isplitl [H2] <;> iassumption)
  isplitl [T2] <;> iassumption

end Cert.KernelIdeal.Own
-- ==== Proof.Launch.lean ====
/-
# 01_k — the launch

The ghost state is minted with one position and one token per cell; the tokens are dealt to the devices that pay
with them; every device starts its body with what it needs, and ends with its cells closed.
-/
module

public import proofs.«01_k».proof.Proof.Entry

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (d : Dev nD)

/-! ## What is minted -/

/-- The kinds of a device's cells. -/
abbrev Kind : Type := Option (Fin 4 × Fin 8)

def ownCells : Finset (GSem nD τ sig) := Finset.univ.map ⟨kcell, kcell_injective⟩

/-- A device's tokens: one for each cell, and the barrier's second. -/
abbrev tokOf (x : Dev nD × (Kind ⊕ Unit)) : GSem nD τ sig × ℕ × Bool := match x.2 with
  | .inl k => (kcell (x.1, k), 0, false)
  | .inr _ => (kcell (x.1, none), 0, true)
theorem tokOf_injective : Function.Injective tokOf := by
  rintro ⟨c, j⟩ ⟨c', j'⟩ h
  rcases j with k | u <;> rcases j' with k' | u'
  · have := kcell_injective (congrArg Prod.fst h)
    cases this; rfl
  · exact absurd (congrArg (fun x : GSem nD τ sig × ℕ × Bool => x.2.2) h) (fun h' => by cases h')
  · exact absurd (congrArg (fun x : GSem nD τ sig × ℕ × Bool => x.2.2) h) (fun h' => by cases h')
  · have := kcell_injective (congrArg Prod.fst h)
    cases this; rfl
def ownToks : Finset (GSem nD τ sig × ℕ × Bool) := Finset.univ.map ⟨tokOf, tokOf_injective⟩

def u₀ : UU :=
  (initOf (Pipeline.cells cfgs cellOf_inj) (Pipeline.launchToks cfgs cellOf_inj), initOf ownCells ownToks)

def toks : sProp 𝕄 :=
  iprop((bigSep Finset.univ fun k : Kind => dutyTok ER (kcell (d, k)) 0 false) ∗ dutyTok ER (kcell (d, none)) 0 true)

/-- What the launch deals a device. -/
def G : sProp 𝕄 :=
  iprop((bigSep Finset.univ fun k : Kind => roundState ER (Rd m) (kcell (d, k)) 0)
    ∗ (bigSep Finset.univ fun k : Kind => iprop(atPos ER (kcell (d, k)) 0 ∅ 0 ∗ reached ER (kcell (d, k)) 0)) ∗ toks d)

theorem fund_own : BI.own (ER (initOf ownCells ownToks)) ⊢ (|==> bigSep Finset.univ (G m) : sProp 𝕄) := by
  have hX (Φ : GSem nD τ sig → sProp 𝕄) : bigSep ownCells Φ = bigSep Finset.univ fun c : Dev nD => bigSep Finset.univ fun k : Kind => Φ (kcell (c, k)) := by
    unfold ownCells; rw [bigSep_map, bigSep_univ_prod]; rfl
  have hT : bigSep ownToks (fun x => (dutyTok ER x.1 x.2.1 x.2.2 : sProp 𝕄)) = bigSep Finset.univ fun c : Dev nD => toks c := by
    unfold ownToks; rw [bigSep_map, bigSep_univ_prod]
    exact bigSep_congr fun c _ => by
      unfold toks; rw [bigSep_univ_sum, bigSep_univ_of_subsingleton (I := Unit) ()]; rfl
  iintro HX
  imod (Rounds.fund ER (Rd m) ownCells ownToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

theorem ownSemFacts : Pipeline.OwnSemFacts cfg0.spec osem := by decide +kernel

theorem ownSems0_eq : (Pipeline.ownSems0 (Ix := Unit) (Name := ℕ) (U := UU) (Lvl := ℕ) (Val := Elt F) (τ := τ) osem d : sProp 𝕄)
    = bigSep Finset.univ fun k : Fin 4 × Fin 8 => semVal (kcell (d, some k)) 0 := by
  unfold Pipeline.ownSems0; rfl
theorem unscopedSems0_eq : (unscopedSems0 d : sProp 𝕄) = semVal (barCell d) 0 := by
  unfold unscopedSems0; rw [bigSep_eq_bigSepL_of_eq [SemLoc.reg barS] (by decide) (by decide)]; rfl

theorem bigSep_kinds (Φ : Kind → sProp 𝕄) : bigSep Finset.univ Φ
    = iprop(Φ none ∗ bigSep Finset.univ fun k : Fin 4 × Fin 8 => Φ (some k)) := by
  rw [bigSep_cells, bigSep_univ_prod, bigSep_fin4]

theorem sems0_eq : (bigSep Finset.univ fun k : Kind => semVal (kcell (d, k)) 0 : sProp 𝕄)
    = iprop(unscopedSems0 d ∗ Pipeline.ownSems0 (Ix := Unit) (Name := ℕ) (U := UU) (Lvl := ℕ) (Val := Elt F) (τ := τ) osem d) := by
  rw [bigSep_kinds, ownSems0_eq, unscopedSems0_eq]

theorem core_alloc :
    iprop(Pipeline.ownSems0 (Ix := Unit) (Name := ℕ) (U := UU) (Lvl := ℕ) (Val := Elt F) (τ := τ) osem d ∗ unscopedSems0 d ∗ G m d)
      ⊢ |={Set.univ}=> iprop((bigSep Finset.univ fun k : Kind => iprop(∃ κ : ℕ, cellInv ER (Rd m) κ (kcell (d, k))))
          ∗ (bigSep Finset.univ fun k : Kind => iprop(atPos ER (kcell (d, k)) 0 ∅ 0 ∗ reached ER (kcell (d, k)) 0)) ∗ toks d) := by
  unfold G
  iintro ⟨Hos, Hus, Hst, Hat, Htok⟩
  ihave Hv := (Entails.of_eq (sems0_eq (F := F) d).symm) $$ [Hos Hus]
  · isplitl [Hus] <;> iassumption
  imod (show iprop((bigSep Finset.univ fun k : Kind => semVal (kcell (d, k)) 0) ∗ bigSep Finset.univ fun k : Kind => roundState ER (Rd m) (kcell (d, k)) 0)
      ⊢ (|={Set.univ}=> bigSep Finset.univ fun k : Kind => iprop(∃ κ : ℕ, cellInv ER (Rd m) κ (kcell (d, k))) : sProp 𝕄) from by
        rw [← bigSep_sep']
        exact (bigSep_mono fun k _ => (Rounds.body_intro ER (Rd m) (kcell (d, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing -/

/-- The tokens a device pays with. -/
def payToks : sProp 𝕄 :=
  iprop(dutyTok ER (barCell (p1 d)) 0 false ∗ dutyTok ER (barCell (p2 d)) 0 true
    ∗ (bigSep Finset.univ fun h => dutyTok ER (kvCell d 0 h) 0 false) ∗ (bigSep Finset.univ fun h => dutyTok ER (kvCell d 1 h) 0 false)
    ∗ (bigSep Finset.univ fun c => dutyTok ER (sendCell d c) 0 false)
    ∗ bigSep Finset.univ fun c => dutyTok ER (recvCell (peer d c) c) 0 false)

def swap1 : Dev nD ≃ Dev nD := ⟨p1, p1, p1_p1, p1_p1⟩
def swap2 : Dev nD ≃ Dev nD := ⟨p2, p2, p2_p2, p2_p2⟩
def swapP : Dev nD × Fin 8 ≃ Dev nD × Fin 8 :=
  ⟨fun x => (peer x.1 x.2, x.2), fun x => (peer x.1 x.2, x.2), fun x => Prod.ext (peer_peer _ _) rfl, fun x => Prod.ext (peer_peer _ _) rfl⟩

theorem recv_around : (bigSep Finset.univ fun d : Dev nD => bigSep Finset.univ fun c : Fin 8 => (dutyTok ER (recvCell d c) 0 false : sProp 𝕄))
    = bigSep Finset.univ fun d : Dev nD => bigSep Finset.univ fun c : Fin 8 => dutyTok ER (recvCell (peer d c) c) 0 false := by
  rw [← bigSep_univ_prod (fun x : Dev nD × Fin 8 => (dutyTok ER (recvCell x.1 x.2) 0 false : sProp 𝕄)),
    bigSep_univ_equiv swapP, bigSep_univ_prod]
  exact bigSep_congr fun d _ => bigSep_congr fun c _ => by unfold swapP; rfl

theorem toks_around : (bigSep Finset.univ fun d : Dev nD => (toks d : sProp 𝕄)) ⊢ bigSep Finset.univ fun d : Dev nD => payToks d := by
  have e (d : Dev nD) : (toks d : sProp 𝕄) = iprop((dutyTok ER (barCell d) 0 false
      ∗ (bigSep Finset.univ fun h => dutyTok ER (kvCell d 0 h) 0 false) ∗ (bigSep Finset.univ fun h => dutyTok ER (kvCell d 1 h) 0 false)
      ∗ (bigSep Finset.univ fun c => dutyTok ER (sendCell d c) 0 false)
      ∗ bigSep Finset.univ fun c => dutyTok ER (recvCell d c) 0 false) ∗ dutyTok ER (barCell d) 0 true) := by
    unfold toks; rw [bigSep_cells]
  rw [bigSep_congr fun d _ => e d]
  unfold payToks
  simp only [bigSep_sep']
  rw [bigSep_univ_equiv swap1 (fun c : Dev nD => (dutyTok ER (barCell c) 0 false : sProp 𝕄)),
    bigSep_univ_equiv swap2 (fun c : Dev nD => (dutyTok ER (barCell c) 0 true : sProp 𝕄)), recv_around]
  iintro ⟨⟨H1, H2, H3, H4, H5⟩, H6⟩
  isplitl [H1]; · iexact H1
  isplitl [H6]; · iexact H6
  isplitl [H2]; · iexact H2
  isplitl [H3]; · iexact H3
  isplitl [H4] <;> iassumption

/-- What stays with a device: its positions and its tokens. -/
def linear : sProp 𝕄 := iprop((bigSep Finset.univ fun k : Kind => atPos ER (kcell (d, k)) 0 ∅ 0) ∗ payToks d)

/-- The part of what everyone knows that is allocated. -/
def known (K : Dev nD × Kind → ℕ) : sProp 𝕄 :=
  iprop((bigSep Finset.univ fun ck => cellInv ER (Rd m) (K ck) (kcell ck)) ∗ bigSep Finset.univ fun ck => reached ER (kcell ck) 0)
instance known_persistent (K) : BI.Persistent (known (F := F) m K) := by unfold known; infer_instance

/-- What the global step makes for a device. -/
def G' : sProp 𝕄 := iprop(∃ K, known m K ∗ linear d)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun d : Dev nD => iprop((bigSep Finset.univ fun k : Kind => iprop(∃ κ : ℕ, cellInv ER (Rd m) κ (kcell (d, k))))
          ∗ (bigSep Finset.univ fun k : Kind => iprop(atPos ER (kcell (d, k)) 0 ∅ 0 ∗ reached ER (kcell (d, k)) 0)) ∗ toks d) : sProp 𝕄)
      ⊢ bigSep Finset.univ (G' m) := by
  rw [bigSep_sep', bigSep_sep', ← bigSep_univ_prod (fun ck : Dev nD × Kind => iprop(∃ κ : ℕ, cellInv ER (Rd m) κ (kcell ck))),
    bigSep_congr (s := Finset.univ) (fun (c : Dev nD) _ => bigSep_sep' Finset.univ (fun k : Kind => (atPos ER (kcell (c, k)) 0 ∅ 0 : sProp 𝕄)) (fun k => reached ER (kcell (c, k)) 0)),
    bigSep_sep', ← bigSep_univ_prod (fun ck : Dev nD × Kind => (reached ER (kcell ck) 0 : sProp 𝕄))]
  iintro ⟨HI, ⟨Hat, #HR⟩, Htok⟩
  ihave HK := (BI.bigSep_exists_pi Finset.univ (fun (ck : Dev nD × Kind) (κ : ℕ) => (cellInv ER (Rd m) κ (kcell ck) : sProp 𝕄))) $$ HI
  icases HK with ⟨%K, #HI⟩
  ihave Htk := (toks_around (F := F)) $$ Htok
  iapply (bigSep_with_persistent (R := known m K) (Φ := linear) fun c _ => show iprop(known m K ∗ linear c) ⊢ G' m c from by
    unfold G'; iintro H; iexists K; iexact H)
  isplitr
  · unfold known; isplitl; · iexact HI
    iexact HR
  · unfold linear; rw [bigSep_sep']
    isplitl [Hat] <;> iassumption

theorem glob : (bigSep Finset.univ fun d => iprop(Pipeline.ownSems0 (Ix := Unit) (Name := ℕ) (U := UU) (Lvl := ℕ) (Val := Elt F) (τ := τ) osem d ∗ unscopedSems0 d ∗ G m d) : sProp 𝕄)
    ⊢ |={Set.univ}=> bigSep Finset.univ (G' m) :=
  ((bigSep_mono fun d _ => core_alloc m d).trans (bigSep_fupd _ _)).trans (BI.fupd_mono (regroup m))

/-! ## The launch credit -/

theorem bar_eq_iff {a b : Dev nD} : barCell a = barCell b ↔ a = b :=
  ⟨fun h => Fin.ext (congrArg (fun g : GSem nD τ sig => g.1.1.val) h), fun h => h ▸ rfl⟩
theorem recv_eq_iff {a b : Dev nD} {c x : Fin 8} : recvCell a x = recvCell b c ↔ a = b ∧ x = c := by
  constructor
  · intro h
    have := kcell_injective (show kcell (a, some (3, x)) = kcell (b, some (3, c)) from h)
    cases this; exact ⟨rfl, rfl⟩
  · rintro ⟨rfl, rfl⟩; rfl
theorem recv_ne_bar (a b : Dev nD) (c : Fin 8) : recvCell a c ≠ barCell b := fun h => by
  cases congrArg Prod.snd h

theorem owe_recv (e : Dev nD) (c : Fin 8) (l : List (Fin 8)) (hl : l.Nodup) :
    owe e l (recvCell d c) () = if c ∈ l ∧ e = peer d c then NS else 0 := by
  induction l with
  | nil => rw [if_neg (fun h => absurd h.1 List.not_mem_nil)]; rfl
  | cons x l ih =>
    unfold owe
    rw [Pi.add_apply, Finsupp.add_apply, ih (List.nodup_cons.mp hl).2, tallyAt_apply]
    by_cases hx : x = c
    · subst hx
      rw [if_neg (fun h => (List.nodup_cons.mp hl).1 h.1), Nat.zero_add]
      by_cases he : e = peer d x
      · subst he; rw [peer_peer, if_pos ⟨rfl, rfl⟩, if_pos ⟨List.mem_cons_self, rfl⟩]
      · rw [if_neg (fun h => he ?_), if_neg (fun h => he h.2)]
        rw [(recv_eq_iff.mp h.1).1, peer_peer]
    · rw [if_neg (c := _ ∧ _) (fun h => hx (recv_eq_iff.mp h.1).2.symm), Nat.add_zero]
      exact if_congr ⟨fun h => ⟨List.mem_cons_of_mem _ h.1, h.2⟩, fun h => ⟨(List.mem_cons.mp h.1).resolve_left (Ne.symm hx), h.2⟩⟩ rfl rfl

theorem owe_bar (e : Dev nD) (l : List (Fin 8)) : owe e l (barCell d) () = 0 :=
  Nat.eq_zero_of_not_pos fun h => by obtain ⟨c, _, hc⟩ := owe_pos h; exact recv_ne_bar _ _ _ hc.symm

theorem owed_bar (e : Dev nD) : O₀ e (barCell d) () = (if e = p2 d then 1 else 0) + (if e = p1 d then 1 else 0) := by
  unfold O₀ O₁
  rw [Pi.add_apply, Finsupp.add_apply, Pi.add_apply, Finsupp.add_apply, owe_bar, tallyAt_apply, tallyAt_apply, Nat.zero_add]
  congr 1
  · refine if_congr ⟨fun h => ?_, fun h => ⟨?_, rfl⟩⟩ rfl rfl
    · rw [bar_eq_iff.mp h.1, p2_p2]
    · rw [h, p2_p2]
  · refine if_congr ⟨fun h => ?_, fun h => ⟨?_, rfl⟩⟩ rfl rfl
    · rw [bar_eq_iff.mp h.1, p1_p1]
    · rw [h, p1_p1]

theorem owed_recv (e : Dev nD) (c : Fin 8) : O₀ e (recvCell d c) () = if e = peer d c then NS else 0 := by
  unfold O₀ O₁
  rw [Pi.add_apply, Finsupp.add_apply, Pi.add_apply, Finsupp.add_apply, owe_recv d e c order (by decide),
    tallyAt_ne_cell (recv_ne_bar _ _ _), tallyAt_ne_cell (recv_ne_bar _ _ _), Finsupp.zero_apply, Nat.add_zero, Nat.add_zero]
  exact if_congr ⟨fun h => h.2, fun h => ⟨by clear h; revert c; decide, h⟩⟩ rfl rfl

theorem launch_bar :
    tallyOn (barCell d) (launchCredit (Pipeline.owing O₀) 0 (barCell d)) = (tallyAt (barCell d) () 2 : CellTallies nD τ sig Unit) := by
  unfold tallyAt; refine congrArg _ (Finsupp.ext fun u => ?_); cases u
  rw [Pipeline.launchCredit_owing, Finsupp.single_eq_same, Finset.sum_congr rfl fun e _ => owed_bar d e, Finset.sum_add_distrib,
    Finset.sum_ite_eq' Finset.univ (p2 d) fun _ => 1, Finset.sum_ite_eq' Finset.univ (p1 d) fun _ => 1, if_pos (Finset.mem_univ _), if_pos (Finset.mem_univ _)]

theorem launch_recv (c : Fin 8) :
    tallyOn (recvCell d c) (launchCredit (Pipeline.owing O₀) 0 (recvCell d c)) = (tallyAt (recvCell d c) () NS : CellTallies nD τ sig Unit) := by
  unfold tallyAt; refine congrArg _ (Finsupp.ext fun u => ?_); cases u
  rw [Pipeline.launchCredit_owing, Finsupp.single_eq_same, Finset.sum_congr rfl fun e _ => owed_recv d e c,
    Finset.sum_ite_eq' Finset.univ (peer d c) fun _ => NS, if_pos (Finset.mem_univ _)]

/-- A device's launch credit. -/
def credits : sProp 𝕄 :=
  iprop(cred (tallyAt (barCell d) () 2) ∗ bigSep Finset.univ fun c : Fin 8 => cred (tallyAt (recvCell d c) () NS))

theorem creds : (Pipeline.launchCred O₀ d : sProp 𝕄) ⊢ credits d := by
  have hinj : Function.Injective fun c : Fin 8 => (SemLoc.dma (recvSemA c) : SemLoc sig) := fun a b h =>
    (recv_eq_iff (a := d) (b := d)).mp (congrArg (fun s => ((d : Thread nD τ), s)) h) |>.2
  unfold Pipeline.launchCred credits
  rw [bigSep_univ_at _ (SemLoc.reg barS), launch_bar]
  refine sep_mono_right ?_
  refine (bigSep_subset (t := Finset.univ.map ⟨_, hinj⟩) (fun s hs => ?_)).trans ?_
  · obtain ⟨c, -, rfl⟩ := Finset.mem_map.mp hs
    exact Finset.mem_erase.mpr ⟨fun h => (by cases h), Finset.mem_univ _⟩
  · rw [bigSep_map]
    exact bigSep_mono fun c _ => Entails.of_eq (congrArg cred (launch_recv d c))

end Cert.KernelIdeal.Own
-- ==== Proof.Run.lean ====
/-
# 01_k — the run

The body obligation and the launch theorem: from any memory with zero counters every fair execution ends, with the
result computed, the arguments as they were and every counter at zero.
-/
module

public import proofs.«01_k».proof.Proof.Launch
public import proofs.«01_k».proof.Proof.Gen.KernelIdeal.Points
public import Idealize.ShloMosaic.Lib.Pipeline.CollectiveSegs
public import Idealize.ShloMosaic.Lib.Pipeline.ValueKit.Geometry

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (d : Dev nD)

/-! ## Before and after the body -/

/-- What a device starts from, but for its scratch buffers. -/
def start : sProp 𝕄 := iprop(∃ K, records m K ∗ linear d ∗ credits d ∗ bigSep Finset.univ (lent m d))
def Φ₀ : sProp 𝕄 := iprop(∃ K, records m K ∗ bodyPre m d fullShare)
def Φ₁ : sProp 𝕄 := iprop(unscopedSems0 d
  ∗ Pipeline.ownSems0 (Ix := Unit) (Name := ℕ) (U := UU) (Lvl := ℕ) (Val := Elt F) (τ := τ) osem d
  ∗ scr d cc0_scratch0 ∗ scr d cc0_scratch1 ∗ scr d cc0_scratch2 ∗ scr d cc0_scratch3)

theorem start_body (K : Dev nD × Kind → ℕ) :
    iprop((linear d ∗ credits d ∗ bigSep Finset.univ (lent m d)) ∗ scr d cc0_scratch0 ∗ scr d cc0_scratch1 ∗ scr d cc0_scratch2 ∗ scr d cc0_scratch3)
      ⊢ bodyPre m d fullShare := by
  unfold linear credits payToks bodyPre
  rw [bigSep_cells]
  iintro ⟨⟨⟨⟨AB, A0, A1, A2, A3⟩, T1, T2, Tk, Tv, Ts, Tr⟩, ⟨CB, CR⟩, HL⟩, S0, S1, S2, S3⟩
  ihave S0 := (k_cut d) $$ S0
  ihave S1 := (v_cut d) $$ S1
  ihave S2 := (s_cut d) $$ S2
  ihave S3 := (r_cut d) $$ S3
  isplitl [HL S0 S1 Tk Tv]
  · iapply (show (iprop(bigSep Finset.univ (lent m d) ∗ bigSep Finset.univ (kAny d) ∗ bigSep Finset.univ (vAny d)
        ∗ (bigSep Finset.univ fun h => dutyTok ER (kvCell d 0 h) 0 false) ∗ (bigSep Finset.univ fun h => dutyTok ER (kvCell d 1 h) 0 false)) : sProp 𝕄)
        ⊢ bigSep Finset.univ (headPre m d fullShare) from by
      rw [← bigSep_sep', ← bigSep_sep', ← bigSep_sep', ← bigSep_sep']
      refine bigSep_mono fun h _ => ?_
      refine (show (_ : sProp 𝕄) ⊢ _ from ?_)
      unfold lent headPre
      iintro ⟨⟨H1, H2⟩, H3, H4, H5, H6⟩
      isplitl [H1]; · iexact H1
      isplitl [H2]; · iexact H2
      isplitl [H3]; · iexact H3
      isplitl [H4]; · iexact H4
      isplitl [H5] <;> iassumption)
    isplitl [HL]; · iexact HL
    isplitl [S0]; · iexact S0
    isplitl [S1]; · iexact S1
    isplitl [Tk] <;> iassumption
  isplitl [A0 A1]
  · unfold headPos; rw [bigSep_sep']; isplitl [A0] <;> iassumption
  isplitl [T1 T2 CB AB]
  · isplitl [T1]; · iexact T1
    isplitl [T2]; · iexact T2
    isplitl [CB] <;> iassumption
  isplitl [S3]; · iexact S3
  isplitl [S2]; · iexact S2
  isplitl [Ts Tr]
  · unfold slotToks; rw [bigSep_sep']; isplitl [Ts] <;> iassumption
  isplitl [CR A3]
  · unfold recvPre; rw [bigSep_sep']; isplitl [CR] <;> iassumption
  iexact A2

/-- Every cell of the device is closed: its counter is at zero. -/
theorem close_all (K : Dev nD × Kind → ℕ) :
    iprop(records m K ∗ bigSep Finset.univ fun k : Kind => atPos ER (kcell (d, k)) (0 + 1) ∅ 0)
      ⊢ |={Set.univ}=> bigSep Finset.univ fun k : Kind => (semVal (kcell (d, k)) 0 : sProp 𝕄) := by
  refine (bigSep_with_persistent (R := records m K) (Ψ := fun k : Kind => iprop(|={Set.univ}=> semVal (kcell (d, k)) 0)) fun k _ => ?_).trans
    (bigSep_fupd _ _)
  iintro ⟨#HR, H⟩
  iapply (Rounds.cell_close ER (Rd m) (Set.mem_univ (K (d, k))) (fun h => h) (R := 0 + 1) (duties_later m (kcell (d, k))))
  isplitr
  · iapply (inv_at m K (d, k)); iexact HR
  iexact H

theorem body_end (K : Dev nD × Kind → ℕ) : iprop(records m K ∗ bodyPost m d) ⊢ |={Set.univ}=> Φ₁ (F := F) d := by
  unfold bodyPost runPost headPos recvPost donePost
  simp only [bigSep_sep']
  iintro ⟨#HR, ⟨⟨S0, S1⟩, A0, A1⟩, AB, ⟨S3, A3⟩, S2, A2⟩
  imod (close_all m d K) $$ [A0 A1 AB A3 A2] with HZ
  · isplitr; · iexact HR
    rw [bigSep_cells]
    isplitl [AB]; · iexact AB
    isplitl [A0]; · iexact A0
    isplitl [A1]; · iexact A1
    isplitl [A2] <;> iassumption
  imodintro
  ihave HZ := (Entails.of_eq (sems0_eq (F := F) d)) $$ HZ
  icases HZ with ⟨Z1, Z2⟩
  unfold Φ₁
  isplitl [Z1]; · iexact Z1
  isplitl [Z2]; · iexact Z2
  isplitl [S0]
  · iapply (k_join d)
    iapply (show (bigSep Finset.univ (kGot m d) : sProp 𝕄) ⊢ _ from bigSep_mono fun h _ => kGot_any m d h); iexact S0
  isplitl [S1]
  · iapply (v_join d)
    iapply (show (bigSep Finset.univ (vGot m d) : sProp 𝕄) ⊢ _ from bigSep_mono fun h _ => vGot_any m d h); iexact S1
  isplitl [S2]
  · iapply (s_join d); iexact S2
  iapply (r_join d); iexact S3

/-! ## The body obligation -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wqstg m c
    | ⟨2, _⟩ => wostg m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (b : Ref sig .tc) (X : b.ty.Contents (Elt F)) :
    (owns (Ix := Unit) (Name := ℕ) (U := UU) (Lvl := ℕ) (d : Thread nD τ) (Memref.whole b) fullShare X : sProp 𝕄)
      = iprop(∃ f : Buf (Elt F) (((d : Dev nD) : Thread nD τ).loc b), ⌜f = X⌝ ∗ (((d : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((d : Dev nD) : Thread nD τ).loc b), ⌜f = X⌝ ∗ (((d : Thread nD τ).loc b) ↦{fullShare} f))

def obPre : sProp 𝕄 :=
  iprop(Φ₀ m d ∗ (dats m 0 d).owesAt () (t0_0 : Fin cfg0.N).castSucc
    ∗ (∃ x, stg d cc0_stg0_0 ((dats m 0 d).before (0 : Fin 4) t0_0 x))
    ∗ (∃ x, stg d cc0_stg1_0 ((dats m 0 d).before (1 : Fin 4) t0_0 x))
    ∗ (∃ x, stg d cc0_stg2_0 ((dats m 0 d).before (2 : Fin 4) t0_0 x))
    ∗ (∃ x, stg d cc0_stg3_0 ((dats m 0 d).before (3 : Fin 4) t0_0 x)))
def obPost : sProp 𝕄 :=
  iprop(Φ₁ d ∗ (dats m 0 d).owesAt () (t0_0 : Fin cfg0.N).succ
    ∗ stg d cc0_stg0_0 (xstg m d) ∗ stg d cc0_stg1_0 (wqstg m d) ∗ stg d cc0_stg2_0 (wostg m d) ∗ stg d cc0_stg3_0 (outAt m d))

theorem runs_fupd {α : Type} (p : Prog (TpuEff nD τ sig (Elt F) Λ₀ .tc) α) (Q : α → sProp 𝕄) :
    RunsTo d p (fun a => iprop(|={Set.univ}=> Q a)) ⊢ RunsTo d p Q := wp_fupd _ _ _ p Q

theorem ob_body : obPre m d ⊢ RunsTo d body (fun _ => obPost m d) := by
  unfold obPre Φ₀
  iintro ⟨⟨%K, #HR, HB⟩, Ho, ⟨%x0, %g0, %hg0, H0⟩, ⟨%x1, %g1, %hg1, H1⟩, ⟨%x2, %g2, %hg2, H2⟩, ⟨%x3, %g3, %hg3, H3⟩⟩
  have h0 : g0 = xstg m d := by rw [hg0]; unfold Dat.before; rw [if_pos (fetch0_0 t0_0)]; rfl
  have h1 : g1 = wqstg m d := by rw [hg1]; unfold Dat.before; rw [if_pos (fetch0_1 t0_0)]; rfl
  have h2 : g2 = wostg m d := by rw [hg2]; unfold Dat.before; rw [if_pos (fetch0_2 t0_0)]; rfl
  subst h0 h1 h2
  unfold Dat.owesAt Pipeline.owesWithin
  icases Ho with ⟨%W, %hW, HO⟩
  rw [show (dats m 0 d).owed (t0_0 : Fin cfg0.N).castSucc = O₀ d from rfl]
  unfold RunsTo
  iapply (runs_fupd d body (fun _ => obPost m d))
  unfold RunsTo
  iapply (body_spec m K d fullShare g3 fun _ => iprop(|={Set.univ}=> obPost m d)) $$ [HB HO H0 H1 H2 H3]
  · isplitr; · iexact HR
    isplitl [HB]; · iexact HB
    isplitl [HO]; · unfold ow; iexists W; iexact HO
    isplitl [H0 H1 H2]
    · unfold staged
      isplitl [H0]; · iexact H0
      isplitl [H1] <;> iassumption
    iexact H3
  unfold ow staged
  iintro ⟨HB, ⟨%W', HO⟩, ⟨H0, H1, H2⟩, H3⟩
  imod (body_end m d K) $$ [HB] with HF
  · isplitr; · iexact HR
    iexact HB
  imodintro
  unfold obPost Dat.owesAt Pipeline.owesWithin
  rw [show (dats m 0 d).owed (t0_0 : Fin cfg0.N).succ = 0 from rfl]
  isplitl [HF]; · iexact HF
  isplitl [HO]
  · iexists W'
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  iexists _; isplitr; · (ipureintro; rfl)
  iexact H3

theorem bigSep_W (Φ : Fin cfg0.W → sProp 𝕄) : bigSep Finset.univ Φ = iprop(Φ (0 : Fin 4) ∗ Φ (1 : Fin 4) ∗ Φ (2 : Fin 4) ∗ Φ (3 : Fin 4)) :=
  bigSep_W0 Φ

set_option maxRecDepth 16000 in
theorem body_obligation : BodyObligation (dats (F := F) m 0 d) (defs₀ (F := F)) 𝒱₀ () Set.univ := fun t => by
  rw [fin_N0 t]
  rw [bigSep_W, bigSep_W]
  simp only [owns_whole_eq]
  show obPre m d ⊢ RunsTo d (cc0_body xM (Memref.isWhole_whole _) wqM (Memref.isWhole_whole _) kH (Memref.isWhole_whole _) vH (Memref.isWhole_whole _)
    woM (Memref.isWhole_whole _) outM (Memref.isWhole_whole _) kM (Memref.isWhole_whole _) vM (Memref.isWhole_whole _)
    sM (Memref.isWhole_whole _) rM (Memref.isWhole_whole _) cc0_scratch4 cc0_scratch5 cc0_scratch6) (fun _ => obPost m d)
  rw [body_eq]
  exact ob_body m d

/-! ## The launch theorem's side conditions -/

theorem share_eq (w : Fin cfg0.W) : (dats m 0 d).share w = fullShare := by unfold Dat.share; split <;> rfl

theorem start_intro :
    iprop(Pipeline.unscopedRestP Pipeline.Prefetch.none cfg0.spec d (fun b => m ((d : Thread nD τ).loc b)) ∗ levAts L lv
        ∗ Pipeline.launchCred O₀ d ∗ prngReg d (ρ d) ∗ G' m d)
      ⊢ |={Set.univ}=> iprop(start m d ∗ kept m d) := by
  rw [Pipeline.unscopedRestP_none, unscopedRest0_eq]
  unfold G' start
  iintro ⟨HU, Hlev, Hcr, -, ⟨%K, HK, HL⟩⟩
  ihave Hc := (creds (F := F) d) $$ Hcr
  ihave HU := (lend m d) $$ HU
  icases HU with ⟨HT, HU⟩
  imodintro
  isplitr [HT]
  · iexists K
    isplitl [HK Hlev]
    · unfold known records
      icases HK with ⟨H1, H2⟩
      isplitl [H1]; · iexact H1
      isplitl [H2] <;> iassumption
    isplitl [HL]; · iexact HL
    isplitl [Hc] <;> iassumption
  iexact HT

theorem phi0_intro :
    iprop(start m d ∗ Pipeline.prefHeld Pipeline.Prefetch.none d (fun _ => fullShare.right) (fun k => k.elim0) ∗ Pipeline.scopedRest cfg0.spec d)
      ⊢ (dats m 0 d).Φ 0 := by
  rw [show (dats m 0 d).Φ 0 = Φ₀ m d from rfl, scopedRest0_eq]
  unfold Φ₀ start
  iintro ⟨⟨%K, HR, HS⟩, -, HX⟩
  iexists K
  isplitl [HR]; · iexact HR
  iapply (start_body m d K)
  isplitl [HS] <;> iassumption

theorem phi1_exit :
    (dats m 0 d).Φ (Fin.last cfg0.N) ⊢ iprop(unscopedSems0 d ∗ Pipeline.ownSems0 osem d ∗ Pipeline.scopedRest cfg0.spec d) := by
  rw [show (dats m 0 d).Φ (Fin.last cfg0.N) = Φ₁ d from rfl, scopedRest0_eq]
  unfold Φ₁
  exact BI.Entails.refl _

theorem waits : (levAts L lv : sProp 𝕄) ⊢ Pipeline.cellsWaits cfgs (dats m) () 0 d :=
  Pipeline.cellsWaits_intro cfgs (dats m) () 0 d fun w s t =>
    mayWait_stage d _ (by fin_cases w <;> fin_cases s <;> decide) _ (by
      rcases t with ⟨_ | _, ht⟩
      · exact Or.inl rfl
      · exact Or.inr rfl)

/-! ## The run -/

/-- What a device's memory holds at the end. -/
def Ends (s : MemSt nD τ sig (Elt F)) : Prop :=
  s.mem ((d : Thread nD τ).loc main_arg0) = m ((d : Thread nD τ).loc main_arg0)
  ∧ s.mem ((d : Thread nD τ).loc main_arg1) = m ((d : Thread nD τ).loc main_arg1)
  ∧ s.mem ((d : Thread nD τ).loc main_arg2) = m ((d : Thread nD τ).loc main_arg2)
  ∧ s.mem ((d : Thread nD τ).loc main_arg3) = m ((d : Thread nD τ).loc main_arg3)
  ∧ s.mem ((d : Thread nD τ).loc main_arg4) = m ((d : Thread nD τ).loc main_arg4)
  ∧ s.mem ((d : Thread nD τ).loc main_v1) = outAt m d

theorem final_out : (dats m 0 d).arrAt (3 : Fin 4) cfg0.N = outAt m d :=
  (dats m 0 d).arrAt_eq_of_after_last (3 : Fin 4) t0_0 (by decide +kernel) (outAt m d) fun j => rfl

theorem kept_read (s' : Phys nD τ sig (Elt F)) : iprop(kept m d ∗ SI s')
    ⊢ (iprop(⌜s'.mem.mem ((d : Thread nD τ).loc main_arg2) = m ((d : Thread nD τ).loc main_arg2)
      ∧ s'.mem.mem ((d : Thread nD τ).loc main_arg3) = m ((d : Thread nD τ).loc main_arg3)⌝ ∗ SI s') : sProp 𝕄) := by
  unfold kept
  iintro ⟨⟨H2, H3⟩, HSI⟩
  icombine HSI H2 gives %h2
  icombine HSI H3 gives %h3
  isplitr
  · ipureintro; exact ⟨Buf.eq_of_forall_mem_univ h2, Buf.eq_of_forall_mem_univ h3⟩
  iexact HSI

set_option maxRecDepth 8000 in
/-- The launch, over any floats. -/
theorem run_main : θ_run defs (onTc (τ := τ) (main (F := F))) ⟨m, fun _ => 0, ρ⟩ (fun r => (∀ d, Ends m d r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_own m) $$ HX with HG
      imodintro
      isplitl [HP] <;> iassumption)
    (hglob := glob m)
    (hA := fun _ _ => rfl) (hpf := fun _ k => k.elim0)
    (X := start m) (Y := fun c => unscopedSems0 c) (Z := kept m)
    (hX := start_intro m ρ) (hin := phi0_intro m) (hout := phi1_exit m)
    (QY := fun c s => (s.mem ((c : Thread nD τ).loc main_arg2) = m ((c : Thread nD τ).loc main_arg2)
        ∧ s.mem ((c : Thread nD τ).loc main_arg3) = m ((c : Thread nD τ).loc main_arg3))
      ∧ ∀ sm : SemLoc sig, sm.isScoped .tc = false → s.sem ((c.tc : Thread nD τ), sm) = 0)
    (hY := fun c s' => by
      iintro ⟨Hu, Hz, HSI⟩
      ihave HZ := (kept_read m c s') $$ [Hz HSI]
      · isplitl [Hz] <;> iassumption
      icases HZ with ⟨%hz, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hz, hs⟩
      iexact HSI)
    (hQ := fun s h hs => ⟨fun c => ⟨((h c).1 (0 : Fin 4)).trans ((dats m 0 c).arrAt_in (0 : Fin 4) rfl _),
        ((h c).1 (1 : Fin 4)).trans ((dats m 0 c).arrAt_in (1 : Fin 4) rfl _), (h c).2.2.1.1, (h c).2.2.1.2,
        ((h c).1 (2 : Fin 4)).trans ((dats m 0 c).arrAt_in (2 : Fin 4) rfl _), ((h c).1 (3 : Fin 4)).trans (final_out m c)⟩,
      sem_eq_zero hs fun c => (h c).2.2.2⟩)

end Cert.KernelIdeal.Own
-- ==== Proof.Softmax.lean ====
/-
# 01_k — the mathematics: the softmax over the kept keys, and sums over gathered blocks
-/
module

public import Idealize.ShloMosaic.PureOps.Ideal
public import Idealize.ShloMosaic.PureOps.Ideal.Laws

@[expose] public section

noncomputable section

namespace Cert.KernelIdeal.Own

open Idealize.ShloMosaic

/-- Query row `i` keeps key row `j`: their blocks of 64 are the same, the key's is the first, or the sum of the two is a multiple of 3. -/
abbrev Kept (i j : ℕ) : Prop := i / 64 = j / 64 ∨ j / 64 = 0 ∨ (i / 64 + j / 64) % 3 = 0

/-! ## Real sums and products inside the extended reals -/

theorem coe_sum {ι : Type*} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A real factor that is not negative moves into a sum. -/
theorem sum_mul_coe {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem div_coe_pos (x : EReal) (r : ℝ) (hr : 0 < r) : Ideal.div x (r : EReal) = x * ((r⁻¹ : ℝ) : EReal) := by
  unfold Ideal.div
  rw [if_neg (by exact_mod_cast hr.ne'), ← EReal.coe_inv]

/-! ## The softmax -/

/-- The largest of scores of which none is `⊤` and one is a real is a real. -/
theorem fold_max_real {ι : Type*} [Fintype ι] (s : ι → EReal) (j₀ : ι) (h₀ : s j₀ ≠ ⊥) (h : ∀ j, s j ≠ ⊤) :
    ∃ M : ℝ, Finset.univ.fold max (⊥ : EReal) s = M := by
  have hlt : Finset.univ.fold max (⊥ : EReal) s < ⊤ :=
    (Finset.fold_max_lt _).2 ⟨bot_lt_top, fun j _ => lt_top_iff_ne_top.2 (h j)⟩
  have hgt : ⊥ < Finset.univ.fold max (⊥ : EReal) s :=
    (Finset.lt_fold_max _).2 (Or.inr ⟨j₀, Finset.mem_univ _, bot_lt_iff_ne_bot.2 h₀⟩)
  exact ⟨_, (EReal.coe_toReal hlt.ne hgt.ne').symm⟩

/-- The kernel's quotient over the kept keys is the reference's weighted sum over all keys: the factor that the largest score
    takes out of every weight cancels, and a key left out has weight 0. The values may be infinite. -/
theorem softmax_sum {ι : Type*} [Fintype ι] (P : ι → Prop) [DecidablePred P] (s : ι → ℝ) (v : ι → EReal) (M : ℝ) (j₀ : ι) (h₀ : P j₀) :
    Ideal.div (∑ j ∈ Finset.univ.filter P, Ideal.exp (s j) * v j) (∑ j ∈ Finset.univ.filter P, Ideal.exp (s j))
      = ∑ j, v j * Ideal.div (Ideal.exp ((if P j then (s j : EReal) else ⊥) - (M : EReal)))
          (∑ j, Ideal.exp ((if P j then (s j : EReal) else ⊥) - (M : EReal))) := by
  have hw : ∀ j, Ideal.exp ((if P j then (s j : EReal) else ⊥) - (M : EReal)) = ((if P j then Real.exp (s j - M) else 0 : ℝ) : EReal) := by
    intro j
    split
    · rw [← EReal.coe_sub]; rfl
    · rw [EReal.bot_sub]; rfl
  have hne : (Finset.univ.filter P).Nonempty := ⟨j₀, by simp [h₀]⟩
  have hZ : 0 < ∑ j ∈ Finset.univ.filter P, Real.exp (s j) := Finset.sum_pos (fun j _ => Real.exp_pos _) hne
  have hsum : (∑ j, Ideal.exp ((if P j then (s j : EReal) else ⊥) - (M : EReal)))
      = (((∑ j ∈ Finset.univ.filter P, Real.exp (s j)) * Real.exp (-M) : ℝ) : EReal) := by
    simp only [hw]
    rw [← coe_sum, Finset.sum_mul, Finset.sum_filter]
    congr 1
    refine Finset.sum_congr rfl fun j _ => ?_
    split
    · rw [← Real.exp_add, sub_eq_add_neg]
    · rfl
  have hE : (∑ j ∈ Finset.univ.filter P, Ideal.exp (s j)) = ((∑ j ∈ Finset.univ.filter P, Real.exp (s j) : ℝ) : EReal) := by
    rw [coe_sum]; rfl
  rw [hsum, hE, div_coe_pos _ _ hZ, sum_mul_coe _ _ _ (inv_nonneg.2 hZ.le), Finset.sum_filter]
  refine Finset.sum_congr rfl fun j _ => ?_
  rw [div_coe_pos _ _ (mul_pos hZ (Real.exp_pos _)), hw]
  split
  · have e : Real.exp (s j - M) * ((∑ j ∈ Finset.univ.filter P, Real.exp (s j)) * Real.exp (-M))⁻¹
        = Real.exp (s j) * (∑ j ∈ Finset.univ.filter P, Real.exp (s j))⁻¹ := by
      rw [sub_eq_add_neg, Real.exp_add, mul_inv]
      field_simp [(Real.exp_pos (-M)).ne', hZ.ne']
    rw [← EReal.coe_mul, e, EReal.coe_mul]
    show (Real.exp (s j) : EReal) * v j * _ = _
    rw [mul_comm (Real.exp (s j) : EReal) (v j), mul_assoc]
  · rw [EReal.coe_zero, zero_mul, mul_zero]

/-! ## Gathered blocks -/

/-- A sum over `n` gathered blocks of 64 rows is the sum over the rows of the blocks gathered. -/
theorem gather_sum {n N : ℕ} (hN : N = n * 64) (b : Fin n → Fin 64) (hb : Function.Injective b) (P : ℕ → Prop) [DecidablePred P]
    (hP : ∀ t : Fin 64, P t.val ↔ ∃ a, b a = t) (f : Fin 4096 → EReal) :
    ∑ x : Fin N, f ⟨64 * (b ⟨x.val / 64, by omega⟩).val + x.val % 64, by omega⟩
      = ∑ j ∈ Finset.univ.filter (fun j : Fin 4096 => P (j.val / 64)), f j := by
  refine Finset.sum_bij (fun x _ => ⟨64 * (b ⟨x.val / 64, by omega⟩).val + x.val % 64, by omega⟩) ?_ ?_ ?_ (fun _ _ => rfl)
  · intro x _
    refine Finset.mem_filter.2 ⟨Finset.mem_univ _, ?_⟩
    have e : (64 * (b ⟨x.val / 64, by omega⟩).val + x.val % 64) / 64 = (b ⟨x.val / 64, by omega⟩).val := by omega
    show P ((64 * (b ⟨x.val / 64, by omega⟩).val + x.val % 64) / 64)
    rw [e]
    exact (hP _).2 ⟨_, rfl⟩
  · intro x _ y _ hxy
    have hv := congrArg Fin.val hxy
    simp only at hv
    have e : b ⟨x.val / 64, by omega⟩ = b ⟨y.val / 64, by omega⟩ := Fin.ext (by omega)
    have e' := congrArg Fin.val (hb e)
    simp only at e'
    exact Fin.ext (by omega)
  · intro j hj
    obtain ⟨a, ha⟩ := (hP ⟨j.val / 64, by omega⟩).1 (Finset.mem_filter.1 hj).2
    have hv := congrArg Fin.val ha
    simp only at hv
    refine ⟨⟨64 * a.val + j.val % 64, by omega⟩, Finset.mem_univ _, Fin.ext ?_⟩
    have e : (⟨(64 * a.val + j.val % 64) / 64, by omega⟩ : Fin n) = a := Fin.ext (by simp only; omega)
    simp only
    rw [e]
    omega

end Cert.KernelIdeal.Own

end
-- ==== Proof.Attend.lean ====
/-
# 01_k — one head's context and the accumulator, read at an index
-/
module

public import proofs.«01_k».proof.Proof.Head
public import proofs.«01_k».proof.Proof.Softmax
public import Idealize.ShloMosaic.Lib.Pointwise
public import Idealize.ShloMosaic.Lib.Pipeline.Value

@[expose] public section

noncomputable section

namespace Cert.KernelIdeal.Own

open Idealize.ShloMosaic Idealize.SL.Sem
open Cert.KernelIdeal Cert.KernelIdeal.Gen

theorem blk_apply (m : FVec Ideal S64x64x128 .bf16) (b r : Fin 64) (c : Fin 128) : blk m b (ix2 r c) = m (ix3 b r c) := by
  pointwise [blk]

theorem slab_apply (v : FVec Ideal S4096x128 .f32) (b r : Fin 64) (c : Fin 128) :
    (slab (F := Ideal) v (ix3 b r c) : EReal) = v (ix2 ⟨64 * b.val + r.val, by omega⟩ c) := by
  pointwise [slab]
  simp only [mul_comm]

theorem gather22_apply (m : FVec Ideal S64x64x128 .bf16) (b : Fin 22 → Fin 64) (x : Fin 1408) (c : Fin 128) :
    gather22 m b (ix2 x c) = m (ix3 (b ⟨x.val / 64, by omega⟩) ⟨x.val % 64, by omega⟩ c) := by
  unfold gather22
  refine (concatenate_ofFn_apply (0 : Fin S1408x128.rank) (fun n => blk m (b n)) _ rfl 64 rfl (ix2 x c) ⟨x.val / 64, by omega⟩ rfl
    (ix2 ⟨x.val % 64, by omega⟩ c) rfl ?_).trans (blk_apply m _ _ _)
  intro a ha
  match a with
  | 0 => exact absurd rfl ha
  | 1 => rfl

theorem gather23_apply (m : FVec Ideal S64x64x128 .bf16) (b : Fin 23 → Fin 64) (x : Fin 1472) (c : Fin 128) :
    gather23 m b (ix2 x c) = m (ix3 (b ⟨x.val / 64, by omega⟩) ⟨x.val % 64, by omega⟩ c) := by
  unfold gather23
  refine (concatenate_ofFn_apply (0 : Fin S1472x128.rank) (fun n => blk m (b n)) _ rfl 64 rfl (ix2 x c) ⟨x.val / 64, by omega⟩ rfl
    (ix2 ⟨x.val % 64, by omega⟩ c) rfl ?_).trans (blk_apply m _ _ _)
  intro a ha
  match a with
  | 0 => exact absurd rfl ha
  | 1 => rfl

theorem attend22_apply (q : FVec Ideal S128x128 .bf16) (k v : FVec Ideal S1408x128 .bf16) (r c : Fin 128) :
    attend22 q k v (ix2 r c) = Ideal.div (∑ x : Fin 1408, Ideal.exp (∑ e : Fin 128, q (ix2 r e) * k (ix2 x e)) * v (ix2 x c))
      (∑ x : Fin 1408, Ideal.exp (∑ e : Fin 128, q (ix2 r e) * k (ix2 x e))) := by
  pointwise [attend22]

theorem attend23_apply (q : FVec Ideal S64x128 .bf16) (k v : FVec Ideal S1472x128 .bf16) (r : Fin 64) (c : Fin 128) :
    attend23 q k v (ix2 r c) = Ideal.div (∑ x : Fin 1472, Ideal.exp (∑ e : Fin 128, q (ix2 r e) * k (ix2 x e)) * v (ix2 x c))
      (∑ x : Fin 1472, Ideal.exp (∑ e : Fin 128, q (ix2 r e) * k (ix2 x e))) := by
  pointwise [attend23]

/-- The outer rows over the gathered blocks: over the keys whose block is gathered. -/
theorem rows22 (q : FVec Ideal S128x128 .bf16) (k v : FVec Ideal S4096x128 .f32) (b : Fin 22 → Fin 64) (hb : Function.Injective b)
    (P : ℕ → Prop) [DecidablePred P] (hP : ∀ t : Fin 64, P t.val ↔ ∃ a, b a = t) (r c : Fin 128) :
    attend22 q (gather22 (slab k) b) (gather22 (slab v) b) (ix2 r c)
      = Ideal.div (∑ j ∈ Finset.univ.filter (fun j : Fin 4096 => P (j.val / 64)), Ideal.exp (∑ e : Fin 128, q (ix2 r e) * k (ix2 j e)) * v (ix2 j c))
        (∑ j ∈ Finset.univ.filter (fun j : Fin 4096 => P (j.val / 64)), Ideal.exp (∑ e : Fin 128, q (ix2 r e) * k (ix2 j e))) := by
  rw [attend22_apply, ← gather_sum (N := 1408) rfl b hb P hP, ← gather_sum (N := 1408) rfl b hb P hP]
  simp only [gather22_apply, slab_apply]

theorem rows23 (q : FVec Ideal S64x128 .bf16) (k v : FVec Ideal S4096x128 .f32) (b : Fin 23 → Fin 64) (hb : Function.Injective b)
    (P : ℕ → Prop) [DecidablePred P] (hP : ∀ t : Fin 64, P t.val ↔ ∃ a, b a = t) (r : Fin 64) (c : Fin 128) :
    attend23 q (gather23 (slab k) b) (gather23 (slab v) b) (ix2 r c)
      = Ideal.div (∑ j ∈ Finset.univ.filter (fun j : Fin 4096 => P (j.val / 64)), Ideal.exp (∑ e : Fin 128, q (ix2 r e) * k (ix2 j e)) * v (ix2 j c))
        (∑ j ∈ Finset.univ.filter (fun j : Fin 4096 => P (j.val / 64)), Ideal.exp (∑ e : Fin 128, q (ix2 r e) * k (ix2 j e))) := by
  rw [attend23_apply, ← gather_sum (N := 1472) rfl b hb P hP, ← gather_sum (N := 1472) rfl b hb P hP]
  simp only [gather23_apply, slab_apply]

theorem b03_inj : Function.Injective b03 := by decide
theorem b1_inj : Function.Injective b1 := by decide
theorem b2_inj : Function.Injective b2 := by decide
theorem b03_mem : ∀ t : Fin 64, t.val % 3 = 0 ↔ ∃ a, b03 a = t := by decide +kernel
theorem b1_mem : ∀ t : Fin 64, (t.val = 0 ∨ t.val = 1 ∨ t.val % 3 = 2) ↔ ∃ a, b1 a = t := by decide +kernel
theorem b2_mem : ∀ t : Fin 64, (t.val = 0 ∨ t.val = 2 ∨ t.val % 3 = 1) ↔ ∃ a, b2 a = t := by decide +kernel

/-- A quotient of sums over keys, at equal scores and over the same keys. -/
theorem div_sum_congr {S T : Finset (Fin 4096)} (hST : S = T) {f g : Fin 4096 → EReal} (hfg : ∀ j, f j = g j) (v : Fin 4096 → EReal) :
    Ideal.div (∑ j ∈ S, Ideal.exp (f j) * v j) (∑ j ∈ S, Ideal.exp (f j))
      = Ideal.div (∑ j ∈ T, Ideal.exp (g j) * v j) (∑ j ∈ T, Ideal.exp (g j)) := by
  rw [hST, funext hfg]

/-- One head's context at query row `i` and column `c`, over the kept keys. -/
theorem ctxOf_apply (q : FVec Ideal S256x128 .bf16) (k v : FVec Ideal S4096x128 .f32) (i : Fin 256) (c : Fin 128) :
    ctxOf q (slab k) (slab v) (ix2 i c)
      = Ideal.div (∑ j ∈ Finset.univ.filter (fun j : Fin 4096 => Kept i.val j.val), Ideal.exp (∑ e : Fin 128, q (ix2 i e) * k (ix2 j e)) * v (ix2 j c))
        (∑ j ∈ Finset.univ.filter (fun j : Fin 4096 => Kept i.val j.val), Ideal.exp (∑ e : Fin 128, q (ix2 i e) * k (ix2 j e))) := by
  pointwise [ctxOf, c03Of]
  split
  · rename_i h
    rw [rows22 _ k v b03 b03_inj (fun t => t % 3 = 0) b03_mem]
    refine div_sum_congr (Finset.filter_congr fun j _ => by simp only [Kept]; omega) (fun j => ?_) fun j => v (ix2 j c)
    pointwise
    simp [h]
  split
  · rename_i h0 h
    rw [rows23 _ k v b1 b1_inj (fun t => t = 0 ∨ t = 1 ∨ t % 3 = 2) b1_mem]
    refine div_sum_congr (Finset.filter_congr fun j _ => by simp only [Kept]; omega) (fun j => ?_) fun j => v (ix2 j c)
    pointwise
    simp only [show (⟨64 + (i.val - 64), by omega⟩ : Fin 256) = i from Fin.ext (by simp only; omega)]
  split
  · rename_i h0 h1 h
    rw [rows23 _ k v b2 b2_inj (fun t => t = 0 ∨ t = 2 ∨ t % 3 = 1) b2_mem]
    refine div_sum_congr (Finset.filter_congr fun j _ => by simp only [Kept]; omega) (fun j => ?_) fun j => v (ix2 j c)
    pointwise
    simp only [show (⟨128 + (i.val - 64 - 64), by omega⟩ : Fin 256) = i from Fin.ext (by simp only; omega)]
  · rename_i h0 h1 h
    rw [rows22 _ k v b03 b03_inj (fun t => t % 3 = 0) b03_mem]
    refine div_sum_congr (Finset.filter_congr fun j _ => by simp only [Kept]; omega) (fun j => ?_) fun j => v (ix2 j c)
    pointwise
    simp only [show (⟨192 + (i.val - 64 - 64 - 64), by omega⟩ : Fin 256) = i from Fin.ext (by simp only; omega)]

theorem qHead_apply (q : FVec Ideal S256x1024 .bf16) (h : Fin 8) (i : Fin 256) (c : Fin 128) :
    qHead q h (ix2 i c) = q (ix2 i ⟨128 * h.val + c.val, by omega⟩) := by
  pointwise [qHead]

theorem qOf_apply (x : FVec Ideal S1x256x1024 .f32) (wq : FVec Ideal S1024x1024 .f32) (i : Fin 256) (n : Fin 1024) :
    (qOf (F := Ideal) x wq (ix2 i n) : EReal) = (∑ e : Fin 1024, x (ix3 0 i e) * wq (ix2 e n)) * Ideal.ofBits .f32 0x3DB504F3#32 := by
  pointwise [qOf]

theorem headVal_apply (q : FVec Ideal S256x1024 .bf16) (h : Fin 8) (k v : FVec Ideal S4096x128 .f32) (wo : FVec Ideal S128x1024 .f32)
    (acc : FVec Ideal S256x1024 .f32) (i : Fin 256) (o : Fin 1024) : headVal q h k v wo acc (ix2 i o)
      = acc (ix2 i o) + ∑ c : Fin 128, ctxOf (qHead q h) (slab k) (slab v) (ix2 i c) * wo (ix2 c o) := by
  pointwise [headVal]

end Cert.KernelIdeal.Own

end
-- ==== Proof.Total.lean ====
/-
# 01_k — a device's part, the sum over the devices, and the inputs' parts, read at an index
-/
module

public import proofs.«01_k».proof.Proof.Attend
public import proofs.«01_k».proof.Proof.Body

@[expose] public section

noncomputable section

namespace Cert.KernelIdeal.Own

open Idealize.ShloMosaic Idealize.ShloMosaic.TcCoe Idealize.SL.Sem
open Cert.KernelIdeal Cert.KernelIdeal.Gen

/-! ## Sums -/

theorem quarter_apply (a : FVec Ideal S256x1024 .f32) (c : Fin 4) (i o : Fin 256) :
    quarter a c (ix2 i o) = a (ix2 i ⟨256 * c.val + o.val, by omega⟩) := by
  pointwise [quarter]

theorem plusX_apply (a b : FVec Ideal S256x256 .f32) (i o : Fin 256) :
    plusX a (rnd b) (ix2 i o) = a (ix2 i o) + b (ix2 i o) := by
  pointwise [plusX, rnd]

theorem acc0_apply (i : Fin 256) (o : Fin 1024) : (acc0 : FVec Ideal S256x1024 .f32) (ix2 i o) = 0 := by
  pointwise [acc0]

variable (m : (ℓ : Loc nD τ sig) → Buf (Elt Ideal) ℓ) (d : Dev nD)

/-- What one head adds. -/
def headAdd (h : Fin 8) (i : Fin 256) (o : Fin 1024) : EReal :=
  ∑ c : Fin 128, ctxOf (qHead (qAt m d) h) (slab (kX m d h)) (slab (vX m d h)) (ix2 i c) * woX m d h (ix2 c o)

theorem hv_apply (h : Fin 8) (a : FVec Ideal S256x1024 .f32) (i : Fin 256) (o : Fin 1024) :
    hv m d h a (ix2 i o) = a (ix2 i o) + headAdd m d h i o := headVal_apply _ _ _ _ _ _ _ _

theorem accOf_apply (i : Fin 256) (o : Fin 1024) : accOf m d (ix2 i o) = ∑ h : Fin 8, headAdd m d h i o := by
  unfold accOf
  simp only [hv_apply, acc0_apply, zero_add, Fin.sum_univ_eight]

theorem acc1_apply (c : Fin 4) (i o : Fin 256) : acc1 m d c (ix2 i o)
    = accOf m d (ix2 i ⟨256 * c.val + o.val, by omega⟩) + accOf m (peer d (lo c)) (ix2 i ⟨256 * c.val + o.val, by omega⟩) := by
  unfold acc1
  rw [plusX_apply, quarter_apply, quarter_apply]

/-- The two rounds reach every device once. -/
theorem four (f : Dev nD → EReal) (c : Fin 4) :
    f d + f (peer d (lo c)) + (f (peer d (hi c)) + f (peer (peer d (hi c)) (lo c))) = ∑ d' : Dev nD, f d' := by
  rw [Fin.sum_univ_four (f := f)]
  have e2 : (⟨2, by decide⟩ : Dev nD) = 2 := rfl
  have e3 : (⟨3, by decide⟩ : Dev nD) = 3 := rfl
  fin_cases d <;> fin_cases c <;> simp [peer, p1, p2, lo, hi, e2, e3] <;> abel

theorem outQ_apply (c : Fin 4) (i o : Fin 256) : outQ m d c (ix2 i o)
    = ∑ d' : Dev nD, accOf m d' (ix2 i ⟨256 * c.val + o.val, by omega⟩) := by
  unfold outQ
  rw [plusX_apply, acc1_apply, acc1_apply]
  exact four d (fun d' => accOf m d' (ix2 i ⟨256 * c.val + o.val, by omega⟩)) c

/-! ## The inputs' parts -/

theorem xstg_eq : xstg m d = m ((d : Thread nD τ).loc main_arg0) :=
  Memref.read_access_unit_zero (Elt Ideal) main_arg0 (funext fun a => Nat.zero_mul _) _ _
theorem wqstg_eq : wqstg m d = m ((d : Thread nD τ).loc main_arg1) :=
  Memref.read_access_unit_zero (Elt Ideal) main_arg1 (funext fun a => Nat.zero_mul _) _ _
theorem wostg_eq : wostg m d = m ((d : Thread nD τ).loc main_arg4) :=
  Memref.read_access_unit_zero (Elt Ideal) main_arg4 (funext fun a => Nat.zero_mul _) _ _

/-- A rectangle of unit strides adds its offset. -/
theorem emb_off {s : Shape} {off size : Fin s.rank → ℕ} (inb : ∀ a, off a + size a ≤ s.size a)
    (x : (Rect.unit off size inb).shape.Idx) (y : s.Idx) (h : ∀ a, (y a).val = off a + (x a).val) :
    (Rect.unit off size inb).emb x = y := by
  funext a
  refine Fin.ext ?_
  rw [h a]
  simp

theorem readAt_off {b : Ref sig .tc} {off size : Fin b.ty.shape.rank → ℕ} (inb : ∀ a, off a + size a ≤ b.ty.shape.size a)
    (f : b.ty.Contents (Elt Ideal)) (x : (Rect.unit off size inb).shape.Idx) (y : b.ty.shape.Idx)
    (h : ∀ a, (y a).val = off a + (x a).val) :
    (View.whole b).readAt (Elt Ideal) (Rect.unit off size inb).toLoadRect f x = f y :=
  (View.readAt_apply _ _ _).trans (congrArg f (emb_off inb x y h))

theorem head_lt (d : Dev nD) (h : Fin 8) : 8 * d.val + h.val < 32 := by
  have h1 : d.val < 4 := d.isLt
  omega

theorem srcR_at (h : Fin 8) (j : Fin 4096) (c : Fin 128) (a : Fin 4) :
    (ix4 (0 : Fin 1) j (⟨8 * d.val + h.val, head_lt d h⟩ : Fin 32) c a).val
      = k0_off1 d (BitVec.ofNat 32 h.val) a + (ix4 (0 : Fin 1) j (0 : Fin 1) c a).val := by
  rw [k0_off1_eq]
  match a with
  | 0 => rfl
  | 1 => exact (Nat.zero_add _).symm
  | 2 => rfl
  | 3 => exact (Nat.zero_add _).symm

theorem cast_head (w : FVec Ideal S1x4096x1x128 .f32) (hc : S1x4096x1x128.ShapeCasts S4096x128) (j : Fin 4096) (c : Fin 128) :
    shapeCast S4096x128 w hc (ix2 j c) = w (ix4 0 j 0 c) := by
  pointwise

theorem kX_apply (h : Fin 8) (j : Fin 4096) (c : Fin 128) : kX m d h (ix2 j c)
    = m ((d : Thread nD τ).loc main_arg2) (ix4 0 j ⟨8 * d.val + h.val, head_lt d h⟩ c) := by
  unfold kX
  rw [Memref.read_squeeze_slice kH (srcR d h) (fun _ => rfl) squeezes_S1x4096x1x128_S4096x128
    (show S1x4096x1x128.ShapeCasts S4096x128 by decide)]
  exact (cast_head _ _ j c).trans (readAt_off (b := main_arg2) (k0_off1_inb d h) _ (ix4 (0 : Fin 1) j (0 : Fin 1) c) _ (srcR_at d h j c))

theorem vX_apply (h : Fin 8) (j : Fin 4096) (c : Fin 128) : vX m d h (ix2 j c)
    = m ((d : Thread nD τ).loc main_arg3) (ix4 0 j ⟨8 * d.val + h.val, head_lt d h⟩ c) := by
  unfold vX
  rw [Memref.read_squeeze_slice vH (srcR d h) (fun _ => rfl) squeezes_S1x4096x1x128_S4096x128
    (show S1x4096x1x128.ShapeCasts S4096x128 by decide)]
  exact (cast_head _ _ j c).trans (readAt_off (b := main_arg3) (k0_off1_inb d h) _ (ix4 (0 : Fin 1) j (0 : Fin 1) c) _ (srcR_at d h j c))

theorem woX_apply (h : Fin 8) (c : Fin 128) (o : Fin 1024) : woX m d h (ix2 c o)
    = m ((d : Thread nD τ).loc main_arg4) (ix2 ⟨128 * h.val + c.val, by omega⟩ o) := by
  unfold woX
  rw [wostg_eq]
  refine readAt_off (b := cc0_stg2_0) (inbWo h) _ _ _ fun a => ?_
  match a with
  | 0 => rfl
  | 1 => exact (Nat.zero_add _).symm

/-! ## The result -/

/-- A store's rectangle holds the columns of its quarter. -/
theorem mem_outR (c : Fin 4) (i : Fin 256) (o : Fin 1024) :
    ix3 (0 : Fin 1) i o ∈ (outM.access (outR c)).setOn Finset.univ ↔ o.val / 256 = c.val := by
  show ix3 (0 : Fin 1) i o ∈ ((View.whole cc0_stg3_0).slice (outR c)).set ↔ _
  rw [View.set_slice_whole, Rect.mem_set_unit]
  constructor
  · intro h
    have := h 2
    simp at this
    omega
  · intro h a
    match a with
    | 0 => simp
    | 1 => simp
    | 2 => simp; omega

theorem outWr_in (f : (cc0_stg3_0 : Ref sig .tc).ty.Contents (Elt Ideal)) (c : Fin 4) (i o : Fin 256) :
    outWr m d f c (ix3 0 i ⟨256 * c.val + o.val, by omega⟩) = outQ m d c (ix2 i o) := by
  have e : (ix3 (0 : Fin 1) i (⟨256 * c.val + o.val, by omega⟩ : Fin 1024)) = (outM.access (outR c)).emb (ix3 0 i o) := by
    refine (emb_off (s := S1x256x1024) (inbOut c) (ix3 (0 : Fin 1) i o) _ fun a => ?_).symm
    match a with
    | 0 => rfl
    | 1 => exact (Nat.zero_add _).symm
    | 2 => rfl
  unfold outWr
  rw [e]
  refine (View.write_emb_of_mem _ _ (Finset.mem_univ _)).trans ?_
  pointwise
  exact cast_eq _ _

theorem outWr_out (f : (cc0_stg3_0 : Ref sig .tc).ty.Contents (Elt Ideal)) (c c' : Fin 4) (hc : c' ≠ c) (i o : Fin 256) :
    outWr m d f c' (ix3 0 i ⟨256 * c.val + o.val, by omega⟩) = f (ix3 0 i ⟨256 * c.val + o.val, by omega⟩) := by
  unfold outWr
  refine View.write_of_not_mem _ _ _ fun h => hc (Fin.ext ?_)
  have := (mem_outR c' i ⟨256 * c.val + o.val, by omega⟩).1 h
  simp only at this
  omega

theorem outAt_quarter (c : Fin 4) (i o : Fin 256) :
    outAt m d (ix3 0 i ⟨256 * c.val + o.val, by omega⟩) = outQ m d c (ix2 i o) := by
  unfold outAt outAll
  match c with
  | 0 => rw [outWr_out _ _ _ 0 3 (by decide), outWr_out _ _ _ 0 1 (by decide), outWr_out _ _ _ 0 2 (by decide)]; exact outWr_in m d _ 0 i o
  | 1 => rw [outWr_out _ _ _ 1 3 (by decide)]; exact outWr_in m d _ 1 i o
  | 2 => rw [outWr_out _ _ _ 2 3 (by decide), outWr_out _ _ _ 2 1 (by decide)]; exact outWr_in m d _ 2 i o
  | 3 => exact outWr_in m d _ 3 i o

/-- Every device's result is the sum of the devices' parts. -/
theorem outAt_apply (i : Fin 256) (o : Fin 1024) : outAt m d (ix3 0 i o) = ∑ d' : Dev nD, ∑ h : Fin 8, headAdd m d' h i o := by
  have e := outAt_quarter m d ⟨o.val / 256, by omega⟩ i ⟨o.val % 256, by omega⟩
  have ho : (⟨256 * (o.val / 256) + o.val % 256, by omega⟩ : Fin 1024) = o := Fin.ext (Nat.div_add_mod _ _)
  simp only [outQ_apply, accOf_apply, ho] at e
  exact e

end Cert.KernelIdeal.Own

end
-- ==== Proof.Ref.lean ====
/-
# 01_k — the reference's operations, named stage by stage, and read at an index
-/
module

public import proofs.«01_k».proof.Proof.Gen.ReferenceIdeal.Run
public import Idealize.ShloMosaic.Lib.Pointwise
public import Idealize.ShloMosaic.Lib.Routing.OpsOrder

@[expose] public section

noncomputable section

namespace Cert.ReferenceIdeal.Own

open Idealize.ShloMosaic Idealize.SL.Sem Idealize.ShloMosaic.Routing
open Cert.ReferenceIdeal Cert.ReferenceIdeal.Gen

/-! ## The mask -/

/-- The block of 64 that each query row lies in. -/
def qbV : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32))))
        (broadcastInDim S256 ![] bcast_S_S256 (constantI S_ 32 0#32))))
    (subi (Host.divsi (iotaInDim S256 32 0) (broadcastInDim S256 ![] bcast_S_S256 (id (constantI S_ 32 64#32))))
      (broadcastInDim S256 ![] bcast_S_S256 (constantI S_ 32 1#32)))
    (Host.divsi (iotaInDim S256 32 0) (broadcastInDim S256 ![] bcast_S_S256 (id (constantI S_ 32 64#32))))

/-- The block of 64 that each key row lies in. -/
def kbV : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32))))
        (broadcastInDim S4096 ![] bcast_S_S4096 (constantI S_ 32 0#32))))
    (subi (Host.divsi (iotaInDim S4096 32 0) (broadcastInDim S4096 ![] bcast_S_S4096 (id (constantI S_ 32 64#32))))
      (broadcastInDim S4096 ![] bcast_S_S4096 (constantI S_ 32 1#32)))
    (Host.divsi (iotaInDim S4096 32 0) (broadcastInDim S4096 ![] bcast_S_S4096 (id (constantI S_ 32 64#32))))

/-- The query blocks over the whole square; the key blocks as a row and over the whole square. -/
def qbM : IVec S256x4096 32 :=
  broadcastInDim S256x4096 ![0, 1] bcast_S256x1_S256x4096_0_1 (broadcastInDim S256x1 ![0] bcast_S256_S256x1_0 qbV)
def kbR : IVec S1x4096 32 := broadcastInDim S1x4096 ![1] bcast_S4096_S1x4096_1 kbV
def kbM : IVec S256x4096 32 := broadcastInDim S256x4096 ![0, 1] bcast_S1x4096_S256x4096_0_1 kbR

/-- The divisor 3, and the remainder of the two blocks' sum by it. -/
def three : IVec S_ 32 :=
  select (cmpi .eq (id (constantI S_ 32 3#32)) (constantI S_ 32 0#32)) (constantI S_ 32 1#32) (id (constantI S_ 32 3#32))
def remM : IVec S256x4096 32 := Host.remsi (addi qbM kbM) (broadcastInDim S256x4096 ![] bcast_S_S256x4096 three)
def modM : IVec S256x4096 32 :=
  select (andi (cmpi .ne (cmpi .slt remM (broadcastInDim S256x4096 ![] bcast_S_S256x4096 (constantI S_ 32 0#32)))
        (broadcastInDim S256x4096 ![] bcast_S_S256x4096 (cmpi .slt three (constantI S_ 32 0#32))))
      (cmpi .ne remM (broadcastInDim S256x4096 ![] bcast_S_S256x4096 (constantI S_ 32 0#32))))
    (addi remM (broadcastInDim S256x4096 ![] bcast_S_S256x4096 three)) remM

/-- The mask. -/
def maskM : IVec S256x4096 1 :=
  ori (ori (cmpi .eq qbM kbM) (broadcastInDim S256x4096 ![0, 1] bcast_S1x4096_S256x4096_0_1
      (cmpi .eq kbR (broadcastInDim S1x4096 ![] bcast_S_S1x4096 (constantI S_ 32 0#32)))))
    (cmpi .eq modM (broadcastInDim S256x4096 ![] bcast_S_S256x4096 (constantI S_ 32 0#32)))

/-! ## The attention -/

/-- The masked scores. -/
def scoresM (x : FVec Ideal S1x256x1024 .f32) (wq : FVec Ideal S1024x4096 .f32) (k : FVec Ideal S1x4096x32x128 .f32) :
    FVec Ideal S1x32x256x4096 .f32 :=
  select (broadcastInDim S1x32x256x4096 ![0, 1, 2, 3] bcast_S1x1x256x4096_S1x32x256x4096_0_1_2_3
      (broadcastInDim S1x1x256x4096 ![2, 3] bcast_S256x4096_S1x1x256x4096_2_3 maskM))
    (mulf (Host.dotGeneral dot_S1x256x32x128_S1x4096x32x128_S1x32x256x4096_3_3_1_1_02_02 none
        (shapeCast S1x256x32x128 (Host.dotGeneral dot_S1x256x1024_S1024x4096_S1x256x4096_2_0_01_1_n_n none x wq) shapeCasts_S1x256x4096_S1x256x32x128) k)
      (broadcastInDim S1x32x256x4096 ![] bcast_S_S1x32x256x4096 (constant S_ .f32 0x3DB504F3#32)))
    (broadcastInDim S1x32x256x4096 ![] bcast_S_S1x32x256x4096 (id (constant S_ .f32 0xFF800000#32)))

/-- Each row's largest score, and the weights below it. -/
def maxM (s : FVec Ideal S1x32x256x4096 .f32) : FVec Ideal S1x32x256 .f32 :=
  Host.reduce FloatOps.maximumf s (constant S_ .f32 0xFF800000#32) reducesTo_S1x32x256x4096_S1x32x256_d3 h_S_
def wM (s : FVec Ideal S1x32x256x4096 .f32) : FVec Ideal S1x32x256x4096 .f32 :=
  Host.exp (subf s (broadcastInDim S1x32x256x4096 ![0, 1, 2, 3] bcast_S1x32x256x1_S1x32x256x4096_0_1_2_3
    (broadcastInDim S1x32x256x1 ![0, 1, 2] bcast_S1x32x256_S1x32x256x1_0_1_2 (maxM s))))

/-- Whether a row keeps a key at all. -/
def anyV : IVec S256 1 := Host.reduce IntOp.ori maskM (constantI S_ 1 0#1) reducesTo_S256x4096_S256_d1 h_S_
def keepM : IVec S1x1x256x1 1 := broadcastInDim S1x1x256x1 ![2] bcast_S256_S1x1x256x1_2 anyV

/-- The weights over their sum. -/
def probM (w : FVec Ideal S1x32x256x4096 .f32) : FVec Ideal S1x32x256x4096 .f32 :=
  select (broadcastInDim S1x32x256x4096 ![0, 1, 2, 3] bcast_S1x1x256x1_S1x32x256x4096_0_1_2_3 keepM)
    (Host.divf w (broadcastInDim S1x32x256x4096 ![0, 1, 2, 3] bcast_S1x32x256x1_S1x32x256x4096_0_1_2_3
      (select (broadcastInDim S1x32x256x1 ![0, 1, 2, 3] bcast_S1x1x256x1_S1x32x256x1_0_1_2_3 keepM)
        (broadcastInDim S1x32x256x1 ![0, 1, 2] bcast_S1x32x256_S1x32x256x1_0_1_2
          (Host.reduceAdd w (constant S_ .f32 0x00000000#32) reducesTo_S1x32x256x4096_S1x32x256_d3 h_S_))
        (broadcastInDim S1x32x256x1 ![] bcast_S_S1x32x256x1 (id (constant S_ .f32 0x3F800000#32))))))
    (broadcastInDim S1x32x256x4096 ![] bcast_S_S1x32x256x4096 (id (constant S_ .f32 0x00000000#32)))

/-- The context, and the result. -/
def ctxM (v : FVec Ideal S1x4096x32x128 .f32) (p : FVec Ideal S1x32x256x4096 .f32) : FVec Ideal S1x256x4096 .f32 :=
  shapeCast S1x256x4096 (transpose S1x256x32x128 [0, 3, 1, 2]
    (Host.dotGeneral dot_S1x4096x32x128_S1x32x256x4096_S1x32x128x256_1_3_3_2_02_01 none v p)
    transposes_S1x32x128x256_S1x256x32x128_0_3_1_2) shapeCasts_S1x256x32x128_S1x256x4096
def outM (x : FVec Ideal S1x256x1024 .f32) (wq : FVec Ideal S1024x4096 .f32) (k v : FVec Ideal S1x4096x32x128 .f32)
    (wo : FVec Ideal S4096x1024 .f32) : FVec Ideal S1x256x1024 .f32 :=
  Host.dotGeneral dot_S1x256x4096_S4096x1024_S1x256x1024_2_0_01_1_n_n none (ctxM v (probM (wM (scoresM x wq k)))) wo

set_option maxRecDepth 8192 in
/-- What the reference's run ends with is `outM` of its arguments. -/
theorem res_eq (m : (ℓ : Loc nD τ sig) → Buf (Elt Ideal) ℓ) (c : Dev nD) :
    Value.res_main_v44 m c = outM (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## Read at an index -/

theorem qbV_apply (i : Fin 256) : qbV (ix1 i) = BitVec.ofNat 32 (i.val / 64) := by
  pointwise [qbV]
  revert i
  decide +kernel

theorem kbV_apply (j : Fin 4096) : kbV (ix1 j) = BitVec.ofNat 32 (j.val / 64) := by
  pointwise [kbV]
  revert j
  decide +kernel

theorem maskM_apply (i : Fin 256) (j : Fin 4096) : maskM (ix2 i j) = BitVec.ofBool (decide (i.val / 64 = j.val / 64 ∨ j.val / 64 = 0 ∨ (i.val / 64 + j.val / 64) % 3 = 0)) := by
  pointwise [maskM, modM, remM, three, qbM, kbM, kbR, qbV_apply, kbV_apply]
  obtain ⟨a, ha⟩ : ∃ a : Fin 4, i.val / 64 = a.val := ⟨⟨i.val / 64, by omega⟩, rfl⟩
  obtain ⟨b, hb⟩ : ∃ b : Fin 64, j.val / 64 = b.val := ⟨⟨j.val / 64, by omega⟩, rfl⟩
  rw [ha, hb]
  clear ha hb
  revert a b
  decide +kernel

/-- Every row keeps the first block's keys. -/
theorem anyV_apply (i : Fin 256) : anyV (ix1 i) = 1#1 := by
  pointwise [anyV]
  exact (fold_ori _ _).2 ⟨0, Finset.mem_univ _, by rw [maskM_apply]; simp⟩

/-- The masked score of head `h` at query row `i` and key row `j`. -/
def scoreAt (x : FVec Ideal S1x256x1024 .f32) (wq : FVec Ideal S1024x4096 .f32) (k : FVec Ideal S1x4096x32x128 .f32)
    (h : Fin 32) (i : Fin 256) (j : Fin 4096) : EReal :=
  if i.val / 64 = j.val / 64 ∨ j.val / 64 = 0 ∨ (i.val / 64 + j.val / 64) % 3 = 0 then
    (∑ c : Fin 128, (∑ e : Fin 1024, x (ix3 0 i e) * wq (ix2 e ⟨h.val * 128 + c.val, by omega⟩)) * k (ix4 0 j h c))
      * Ideal.ofBits .f32 0x3DB504F3#32
  else Ideal.ofBits .f32 0xFF800000#32

theorem scoresM_apply (x : FVec Ideal S1x256x1024 .f32) (wq : FVec Ideal S1024x4096 .f32) (k : FVec Ideal S1x4096x32x128 .f32)
    (h : Fin 32) (i : Fin 256) (j : Fin 4096) : scoresM x wq k (ix4 0 h i j) = scoreAt x wq k h i j := by
  pointwise [scoresM, maskM_apply]
  rfl

/-- The weight of key row `j`: its score below the row's largest, exponentiated. -/
def weightAt (s : Fin 4096 → EReal) (j : Fin 4096) : EReal :=
  Ideal.exp (s j - Finset.univ.fold max (Ideal.ofBits .f32 0xFF800000#32) s)

theorem wM_apply (s : FVec Ideal S1x32x256x4096 .f32) (h : Fin 32) (i : Fin 256) (j : Fin 4096) :
    wM s (ix4 0 h i j) = weightAt (fun j => s (ix4 0 h i j)) j := by
  pointwise [wM, maxM]
  rfl

/-- The result's entry: over the heads' columns, the weighted values times the output weights. -/
theorem outM_apply (x : FVec Ideal S1x256x1024 .f32) (wq : FVec Ideal S1024x4096 .f32) (k v : FVec Ideal S1x4096x32x128 .f32)
    (wo : FVec Ideal S4096x1024 .f32) (i : Fin 256) (o : Fin 1024) : outM x wq k v wo (ix3 0 i o)
      = ∑ n : Fin 4096, (∑ j : Fin 4096, v (ix4 0 j ⟨n.val / 128, by omega⟩ ⟨n.val % 128, by omega⟩)
          * Ideal.div (weightAt (scoreAt x wq k ⟨n.val / 128, by omega⟩ i) j) (∑ j, weightAt (scoreAt x wq k ⟨n.val / 128, by omega⟩ i) j))
        * wo (ix2 n o) := by
  pointwise [outM, ctxM, probM, keepM, anyV_apply, wM_apply, scoresM_apply]

end Cert.ReferenceIdeal.Own

end
-- ==== Proof.Equal.lean ====
/-
# 01_k — the kernel's result is the reference's

One head's context is the reference's, for real queries and keys; the heads of the four devices are all the heads.
-/
module

public import proofs.«01_k».proof.Proof.Total
public import proofs.«01_k».proof.Proof.Ref

@[expose] public section

noncomputable section

namespace Cert.KernelIdeal.Own

open Idealize.ShloMosaic Idealize.ShloMosaic.TcCoe Idealize.SL.Sem
open Cert.KernelIdeal Cert.KernelIdeal.Gen
open Cert.ReferenceIdeal.Own (scoreAt weightAt outM_apply)

/-! ## The two constants -/

/-- The scale is a real. -/
theorem scale_real : ∃ r : ℝ, Ideal.ofBits .f32 0x3DB504F3#32 = (r : EReal) := by
  simp [Ideal.ofBits, Ideal.ieee]
  exact ⟨_, (EReal.coe_mul _ _).symm⟩

/-- A masked score is the least extended real. -/
theorem masked_bot : Ideal.ofBits .f32 0xFF800000#32 = (⊥ : EReal) := by
  simp [Ideal.ofBits, Ideal.ieee]

/-! ## One head -/

theorem ctx_eq {x : FVec Ideal S1x256x1024 .f32} {wq : FVec Ideal Cert.ReferenceIdeal.S1024x4096 .f32} {k : FVec Ideal S1x4096x32x128 .f32}
    (hx : ∀ i, ∃ r : ℝ, x i = (r : EReal)) (hwq : ∀ i, ∃ r : ℝ, wq i = (r : EReal)) (hk : ∀ i, ∃ r : ℝ, k i = (r : EReal))
    (v : FVec Ideal S1x4096x32x128 .f32) (H : Fin 32) (i : Fin 256) (c : Fin 128) (t : Fin 4096 → EReal)
    (ht : ∀ j, t j = ∑ e : Fin 128, (∑ a : Fin 1024, x (ix3 0 i a) * wq (ix2 a ⟨H.val * 128 + e.val, by omega⟩))
      * Ideal.ofBits .f32 0x3DB504F3#32 * k (ix4 0 j H e)) :
    Ideal.div (∑ j ∈ Finset.univ.filter (fun j : Fin 4096 => Kept i.val j.val), Ideal.exp (t j) * v (ix4 0 j H c))
        (∑ j ∈ Finset.univ.filter (fun j : Fin 4096 => Kept i.val j.val), Ideal.exp (t j))
      = ∑ j : Fin 4096, v (ix4 0 j H c) * Ideal.div (weightAt (scoreAt x wq k H i) j) (∑ j, weightAt (scoreAt x wq k H i) j) := by
  obtain ⟨κ, hκ⟩ := scale_real
  choose xr hxr using hx
  choose wr hwr using hwq
  choose kr hkr using hk
  let s : Fin 4096 → ℝ := fun j => ∑ e : Fin 128, (∑ a : Fin 1024, xr (ix3 0 i a) * wr (ix2 a ⟨H.val * 128 + e.val, by omega⟩))
      * κ * kr (ix4 0 j H e)
  have hs : t = fun j => (s j : EReal) := by
    funext j
    rw [ht]
    simp only [hxr, hwr, hkr, hκ, ← EReal.coe_mul, ← coe_sum, s]
  have hr : scoreAt x wq k H i = fun j => if Kept i.val j.val then (s j : EReal) else ⊥ := by
    funext j
    unfold scoreAt
    rw [masked_bot]
    refine if_congr Iff.rfl ?_ rfl
    simp only [hxr, hwr, hkr, hκ, ← EReal.coe_mul, ← coe_sum, s]
    refine congrArg _ ?_
    rw [Finset.sum_mul]
    exact Finset.sum_congr rfl fun e _ => by ring
  have h0 : Kept i.val (0 : Fin 4096).val := Or.inr (Or.inl rfl)
  obtain ⟨M, hM⟩ := fold_max_real (scoreAt x wq k H i) 0 (by rw [hr]; simp only [if_pos h0]; exact EReal.coe_ne_bot _)
    (fun j => by rw [hr]; dsimp only; split; exacts [EReal.coe_ne_top _, bot_ne_top])
  simp only [weightAt, masked_bot, hM]
  rw [hr, hs]
  exact softmax_sum (fun j : Fin 4096 => Kept i.val j.val) s (fun j => v (ix4 0 j H c)) M 0 h0

/-! ## All heads -/

theorem sum_split (a b n : ℕ) (hn : n = a * b) (f : Fin n → EReal) :
    ∑ x, f x = ∑ i : Fin a, ∑ j : Fin b, f ⟨b * i.val + j.val, by
      rw [hn]; calc b * i.val + j.val < b * i.val + b := by omega
        _ = b * (i.val + 1) := by ring
        _ ≤ b * a := Nat.mul_le_mul_left _ i.isLt
        _ = a * b := Nat.mul_comm _ _⟩ := by
  subst hn
  rw [← Equiv.sum_comp finProdFinEquiv, Fintype.sum_prod_type]
  refine Finset.sum_congr rfl fun i _ => Finset.sum_congr rfl fun j _ => congrArg f (Fin.ext ?_)
  simp [finProdFinEquiv]
  omega

variable (m : (ℓ : Loc nD τ sig) → Buf (Elt Ideal) ℓ)

theorem outAt_eq {x : FVec Ideal S1x256x1024 .f32} {wq : FVec Ideal Cert.ReferenceIdeal.S1024x4096 .f32} {k v : FVec Ideal S1x4096x32x128 .f32}
    {wo : FVec Ideal Cert.ReferenceIdeal.S4096x1024 .f32}
    (hx : ∀ i, ∃ r : ℝ, x i = (r : EReal)) (hwq : ∀ i, ∃ r : ℝ, wq i = (r : EReal)) (hk : ∀ i, ∃ r : ℝ, k i = (r : EReal))
    (h0 : ∀ d : Dev nD, m ((d : Thread nD τ).loc main_arg0) = x)
    (h1 : ∀ (d : Dev nD) (e n : Fin 1024), m ((d : Thread nD τ).loc main_arg1) (ix2 e n) = wq (ix2 e ⟨1024 * d.val + n.val, by have : d.val < 4 := d.isLt; omega⟩))
    (h2 : ∀ d : Dev nD, m ((d : Thread nD τ).loc main_arg2) = k)
    (h3 : ∀ d : Dev nD, m ((d : Thread nD τ).loc main_arg3) = v)
    (h4 : ∀ (d : Dev nD) (n o : Fin 1024), m ((d : Thread nD τ).loc main_arg4) (ix2 n o) = wo (ix2 ⟨1024 * d.val + n.val, by have : d.val < 4 := d.isLt; omega⟩ o))
    (d : Dev nD) : outAt m d = Cert.ReferenceIdeal.Own.outM x wq k v wo := by
  funext idx
  obtain ⟨i, o, rfl⟩ : ∃ (i : Fin 256) (o : Fin 1024), idx = ix3 (0 : Fin 1) i o := by
    idx_vars idx
    exact ⟨idx1, idx2, by rw [Subsingleton.elim idx0 0]⟩
  refine (outAt_apply m d i o).trans (Eq.trans ?_ (outM_apply x wq k v wo i o).symm)
  refine Eq.trans (α := EReal) ?_ (sum_split 4 1024 4096 rfl _).symm
  refine Finset.sum_congr rfl fun d' _ => ?_
  refine Eq.trans (α := EReal) ?_ (sum_split 8 128 1024 rfl _).symm
  refine Finset.sum_congr rfl fun h _ => ?_
  unfold headAdd
  refine Finset.sum_congr rfl fun c _ => ?_
  have hd : d'.val < 4 := d'.isLt
  have eh : (1024 * d'.val + (128 * h.val + c.val)) / 128 = 8 * d'.val + h.val := by omega
  have ec : (1024 * d'.val + (128 * h.val + c.val)) % 128 = c.val := by omega
  simp only [eh, ec]
  rw [woX_apply, h4, ctxOf_apply]
  refine congrArg (· * _) ?_
  simp only [vX_apply, h3]
  refine ctx_eq hx hwq hk v ⟨8 * d'.val + h.val, head_lt d' h⟩ i c _ fun j => ?_
  simp only [qHead_apply, qAt, qOf_apply, kX_apply, h2, xstg_eq, wqstg_eq, h0, h1]
  refine Finset.sum_congr rfl fun e _ => ?_
  simp only [show (⟨1024 * d'.val + (128 * h.val + e.val), by omega⟩ : Fin 4096) = ⟨(8 * d'.val + h.val) * 128 + e.val, by omega⟩ from
    Fin.ext (by simp only; omega)]

end Cert.KernelIdeal.Own

end
-- ==== Proof.Finite.lean ====
/-
# 01_k — what the precondition says: the entries of the inputs, the query weights and the keys are reals
-/
module

public import proofs.«01_k».proof.Pre_finite_scores_KernelIdeal
public import Idealize.ShloMosaic.Lib.Pointwise
public import Idealize.ShloMosaic.Lib.ReduceAll

@[expose] public section

noncomputable section

namespace Cert.Pre_finite_scores_KernelIdeal

open Idealize.ShloMosaic

theorem own_facts : Facts where
  bcast_S_S1x256x1024 := by decide
  reducesTo_S1x256x1024_S_d0_1_2 := by decide
  h_S_ := by decide
  bcast_S_S1024x1024 := by decide
  reducesTo_S1024x1024_S_d0_1 := by decide
  bcast_S_S1x4096x32x128 := by decide
  reducesTo_S1x4096x32x128_S_d0_1_2_3 := by decide

/-- An absolute value below the largest extended real is a real's. -/
theorem real_of_abs (a : Ideal .f32)
    (h : BitVec.ofBool (decide (FloatOps.absf (F := Ideal) a < Ideal.ofBits .f32 0x7F800000#32)) = 1#1) : ∃ r : ℝ, a = (r : EReal) := by
  have ht : Ideal.ofBits .f32 0x7F800000#32 = (⊤ : EReal) := by simp [Ideal.ofBits, Ideal.ieee]
  rw [ht] at h
  induction a using EReal.rec with
  | coe r => exact ⟨r, rfl⟩
  | bot => exact absurd h (by simp [FloatOps.absf])
  | top => exact absurd h (by simp [FloatOps.absf])

variable [Facts]
open Facts

theorem reals (x : FVec Ideal S1x256x1024 .f32) (wq : FVec Ideal S1024x1024 .f32) (k v : FVec Ideal S1x4096x32x128 .f32) (wo : FVec Ideal S1024x1024 .f32)
    (h : fn x wq k v wo = fun _ => 1#1) :
    (∀ i, ∃ r : ℝ, x i = (r : EReal)) ∧ (∀ i, ∃ r : ℝ, wq i = (r : EReal)) ∧ ∀ i, ∃ r : ℝ, k i = (r : EReal) := by
  have h0 := congrFun h (fun a => a.elim0)
  unfold fn at h0
  obtain ⟨h1, h2⟩ := IntOp.andi_eq_one.1 h0
  obtain ⟨h1, h3⟩ := IntOp.andi_eq_one.1 h1
  refine ⟨fun i => ?_, fun i => ?_, fun i => ?_⟩
  · have g := Host.reduce_andi_all _ _ _ _ _ h1 i
    idx_vars i
    pointwise at g
    exact real_of_abs _ g
  · have g := Host.reduce_andi_all _ _ _ _ _ h3 i
    idx_vars i
    pointwise at g
    exact real_of_abs _ g
  · have g := Host.reduce_andi_all _ _ _ _ _ h2 i
    idx_vars i
    pointwise at g
    exact real_of_abs _ g

end Cert.Pre_finite_scores_KernelIdeal

end
-- ==== Proof.lean ====
/- The proof of the claims about the fused sparse attention over four devices. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equal
public import proofs.«01_k».proof.Proof.Finite
public import Idealize.ShloMosaic.Lib.LayoutAt
public import Idealize.ShloMosaic.Lib.Quiescent
public import Idealize.ShloMosaic.Lib.StableHlo.RunHlo

@[expose] public section

noncomputable section

namespace Cert.Proof

open Idealize.ShloMosaic Idealize.SL.Sem

/-- The two printed kernels are one: no rule applied. -/
theorem body_same {F : FTy → Type} [FloatOps F] : Cert.Kernel.cc0_body (F := F) = Cert.KernelIdeal.cc0_body (F := F) := rfl

theorem bodies_same {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (_, _) => rfl

theorem defs_same {F : FTy → Type} [FloatOps F] : Cert.Kernel.defs (F := F) = Cert.KernelIdeal.defs (F := F) :=
  congrArg (Pipeline.defs _) bodies_same

open Cert.KernelIdeal in
/-- The kernel over any float values, under any name of its table of bodies: the arguments are kept and every counter is back at zero. -/
theorem kept_under {F : FTy → Type} [FloatOps F] (m : (ℓ : Loc nD τ sig) → Buf (Elt F) ℓ) (ρ : Dev nD → PrngReg)
    (D : Defs nD τ sig (Elt F) (Pipeline.Sig Λ₀ (Fin 1) fun p => (pcfgs (F := F) p).Adm)) (hD : D = defs) :
    θ_run D (onTc (τ := τ) (main (F := F))) ⟨m, fun _ => 0, ρ⟩ fun r => (∀ d : Dev nD,
      r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4))
      ∧ r.2.sem = fun _ => 0 := by
  subst hD
  exact θ_run_mono (Own.run_main m ρ) fun _ h =>
    ⟨fun d => ⟨(h.1 d).1, (h.1 d).2.1, (h.1 d).2.2.1, (h.1 d).2.2.2.1, (h.1 d).2.2.2.2.1⟩, h.2⟩

/-- The bit-exact program: its text is the ideal one's. -/
theorem frame_kernel : Cert.quiescent_Kernel := fun m ρ _ => kept_under (F := Bits) m ρ Cert.Kernel.defs defs_same

/-- The ideal program. -/
theorem frame_ideal : Cert.quiescent_KernelIdeal := fun m ρ _ => kept_under (F := Ideal) m ρ _ rfl

/-- The reference keeps its arguments; it has no counter. -/
theorem frame_reference : Cert.quiescent_ReferenceIdeal := fun m ρ _ =>
  (θ_run Cert.ReferenceIdeal.defs _ _).mono
    (fun r h => ⟨fun c => (h c).2, sem_eq_zero_of_no_sems rfl r.2⟩)
    (Cert.ReferenceIdeal.Value.run (F := Ideal) m ρ)

instance pre_facts : Cert.Pre_finite_scores_KernelIdeal.Facts := Cert.Pre_finite_scores_KernelIdeal.own_facts
theorem pre_facts_reference : Cert.Pre_finite_scores_ReferenceIdeal.Facts where
  bcast_S_S1x256x1024 := by decide
  reducesTo_S1x256x1024_S_d0_1_2 := by decide
  h_S_ := by decide
  bcast_S_S1024x4096 := by decide
  reducesTo_S1024x4096_S_d0_1 := by decide
  bcast_S_S1x4096x32x128 := by decide
  reducesTo_S1x4096x32x128_S_d0_1_2_3 := by decide

/-- A device's block of the query weights. -/
theorem block_cols (w : (⟨2, ![1024, 4096]⟩ : Shape).Idx → EReal) (d : Fin 4) (e n : Fin 1024) :
    Layout.block ⟨2, ![1024, 1024]⟩ ⟨2, ![1024, 4096]⟩ 1 4 d w (by decide) (ix2 e n) = w (ix2 e ⟨1024 * d.val + n.val, by omega⟩) := by
  simp only [Layout.block_apply]
  shard_ext

/-- A device's block of the output weights. -/
theorem block_rows (w : (⟨2, ![4096, 1024]⟩ : Shape).Idx → EReal) (d : Fin 4) (n o : Fin 1024) :
    Layout.block ⟨2, ![1024, 1024]⟩ ⟨2, ![4096, 1024]⟩ 0 4 d w (by decide) (ix2 n o) = w (ix2 ⟨1024 * d.val + n.val, by omega⟩ o) := by
  simp only [Layout.block_apply]
  shard_ext

/-- The weights are real when every device's block is. -/
theorem cols_real (w : (⟨2, ![1024, 4096]⟩ : Shape).Idx → EReal)
    (h : ∀ (d : Fin 4) (i : (⟨2, ![1024, 1024]⟩ : Shape).Idx),
      ∃ r : ℝ, Layout.block ⟨2, ![1024, 1024]⟩ ⟨2, ![1024, 4096]⟩ 1 4 d w (by decide) i = (r : EReal)) :
    ∀ i, ∃ r : ℝ, w i = (r : EReal) := by
  intro i
  idx_vars i
  obtain ⟨r, hr⟩ := h ⟨i1.val / 1024, by omega⟩ (ix2 i0 ⟨i1.val % 1024, by omega⟩)
  rw [block_cols] at hr
  have e : (⟨1024 * (i1.val / 1024) + i1.val % 1024, by omega⟩ : Fin 4096) = i1 := Fin.ext (Nat.div_add_mod _ _)
  simp only [e] at hr
  exact ⟨r, hr⟩

/-- The kernel's result on every device is the reference's. -/
theorem algebraic : Cert.algebraic_KernelIdeal_ReferenceIdeal_pre_finite_scores_KernelIdeal := by
  intro m g m' g' hp ha
  have hf := fun c => Cert.Pre_finite_scores_KernelIdeal.reals _ _ _ _ _ (hp c)
  have hx := (hf 0).1
  rw [(ha 0).1] at hx
  have hk := (hf 0).2.2
  rw [(ha 0).2.2.1] at hk
  have hw := cols_real _ fun d i => by
    have := (hf d).2.1 i
    rw [(ha d).2.1] at this
    exact this
  have hout := Cert.KernelIdeal.Own.outAt_eq m hx hw hk (fun d => (ha d).1) (fun d e n => (congrFun (ha d).2.1 _).trans (block_cols _ d e n))
    (fun d => (ha d).2.2.1) (fun d => (ha d).2.2.2.1) (fun d n o => (congrFun (ha d).2.2.2.2 _).trans (block_rows _ d n o))
  refine ⟨_, (θ_run Cert.KernelIdeal.defs _ _).mono (fun r h c => ?_) (Cert.KernelIdeal.Own.run_main (F := Ideal) m g),
    (θ_run Cert.ReferenceIdeal.defs _ _).mono (fun r h => ⟨(h 0).1, (h 0).2⟩) (Cert.ReferenceIdeal.Value.run (F := Ideal) m' g')⟩
  obtain ⟨h0, h1, h2, h3, h4, h5⟩ := h.1 c
  refine ⟨?_, h0, h1, h2, h3, h4⟩
  rw [h5, hout c, Cert.ReferenceIdeal.Own.res_eq]

/-- Everything claimed. -/
theorem claim : Cert.Claim :=
  ⟨Cert.Kernel.Gen.facts, Cert.KernelIdeal.Gen.facts, Cert.ReferenceIdeal.Gen.facts, pre_facts, pre_facts_reference,
    frame_kernel, frame_ideal, fun m g _ => frame_ideal m g trivial, frame_reference, fun m g _ => frame_reference m g trivial,
    trivial, algebraic⟩

end Cert.Proof

end
